-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S512x16 : Shape := ⟨2, ![512, 16]⟩
abbrev S512x128 : Shape := ⟨2, ![512, 128]⟩
abbrev S_ : Shape := ⟨0, ![]⟩
abbrev S512 : Shape := ⟨1, ![512]⟩
abbrev S512x1 : Shape := ⟨2, ![512, 1]⟩
abbrev S512x112 : Shape := ⟨2, ![512, 112]⟩
abbrev S512x32 : Shape := ⟨2, ![512, 32]⟩

abbrev nBuf : Space → Nat
  | .hbm => 2
  | .vmem => 4
  | .smem => 0
  | _ => 0

abbrev bufTy : (tb : Table) → Fin (tcTables nBuf tb) → BufTy
  | .hbm, ⟨0, _⟩ => ⟨S512x4096, .bf16⟩
  | .hbm, ⟨1, _⟩ => ⟨S512x16, .f32⟩
  | .local _ .vmem, ⟨0, _⟩ => ⟨S512x4096, .bf16⟩
  | .local _ .vmem, ⟨1, _⟩ => ⟨S512x16, .f32⟩
  | .local _ .vmem, ⟨2, _⟩ => ⟨S512x128, .f32⟩
  | .local _ .vmem, ⟨3, _⟩ => ⟨S512x128, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v224 : BitVec 32 := Scalar.muli v2 c4_i32_72
  let v225 : BitVec 32 := Scalar.addi c0_i32_73 v224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v226 : BitVec 32 := Scalar.muli v5 c2_i32_74
  let v227 : BitVec 32 := Scalar.addi v225 v226
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_75 : BitVec 32 := 1#32
  let v228 : BitVec 32 := Scalar.muli v9 c1_i32_75
  let v229 : BitVec 32 := Scalar.addi v227 v228
  v229.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S512x8192, .f32⟩
  | .hbm, ⟨2, _⟩ => ⟨S512x8192, .f32⟩
  | .hbm, ⟨3, _⟩ => ⟨S512x8192, .i32⟩
  | .hbm, ⟨4, _⟩ => ⟨S512x8192, .f32⟩
  | .hbm, ⟨5, _⟩ => ⟨S512x8192, .i32⟩
  | .hbm, ⟨6, _⟩ => ⟨S512x16, .i32⟩
  | .hbm, ⟨7, _⟩ => ⟨S_, .i32⟩
  | .hbm, ⟨8, _⟩ => ⟨S512x16, .i32⟩
  | .hbm, ⟨9, _⟩ => ⟨S512x16, .i1⟩
  | .hbm, ⟨10, _⟩ => ⟨S_, .i32⟩
  | .hbm, ⟨11, _⟩ => ⟨S512x16, .i32⟩
  | .hbm, ⟨12, _⟩ => ⟨S512x16, .i32⟩
  | .hbm, ⟨13, _⟩ => ⟨S512x16, .i32⟩
  | .hbm, ⟨14, _⟩ => ⟨S512x16x1, .i32⟩
  | .hbm, ⟨15, _⟩ => ⟨S1, .i32⟩
  | .hbm, ⟨16, _⟩ => ⟨S_, .i32⟩
  | .hbm, ⟨17, _⟩ => ⟨S512x16x1, .i32⟩
  | .hbm, ⟨18, _⟩ => ⟨S512x16x1, .i1⟩
  | .hbm, ⟨19, _⟩ => ⟨S1x1x1, .i32⟩
  | .hbm, ⟨20, _⟩ => ⟨S512x16x1, .i32⟩
  | .hbm, ⟨21, _⟩ => ⟨S512x16x1, .i1⟩
  | .hbm, ⟨22, _⟩ => ⟨S512x16x1, .i1⟩
  | .hbm, ⟨23, _⟩ => ⟨S_, .i1⟩
  | .hbm, ⟨24, _⟩ => ⟨S512x16, .i1⟩
  | .hbm, ⟨25, _⟩ => ⟨S512x16, .f32⟩
  | .hbm, ⟨26, _⟩ => ⟨S_, .f32⟩
  | .hbm, ⟨27, _⟩ => ⟨S512x16, .f32⟩
  | .hbm, ⟨28, _⟩ => ⟨S512x16, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Selection.lean ====
/-
# What one device computes: sixteen selection rounds on the rows of a table

The kernel runs the same round on two tables: on its own bf16 block, 512 × 4096, and then on the 512 × 32 table
of the two devices' candidates in f32. A round takes each row's maximum as its next result and strikes out the
first place where the maximum stands by writing −∞ over it. Here the round is written once, for any row length
and format, and the values that the kernel stores are shown to be sixteen such rounds.
-/
module

public import proofs.«01_k».proof.Proof.Gen.KernelIdeal
public import proofs.«01_k».proof.Proof.Gen.KernelIdeal.Skeleton

@[expose] public section

set_option synthInstance.maxSize 4096

noncomputable section

namespace Cert.TopK

open Cert.KernelIdeal Cert.KernelIdeal.Gen
open Idealize.ShloMosaic

variable {F : FTy → Type} [FloatOps F]

/-- A table of 512 rows of `n` entries. -/
abbrev Rows (n : ℕ) : Shape := ⟨2, ![512, n]⟩

/-- What a round needs to know about its table besides the entries: the pattern that the row maximum starts from,
    the value written over a struck entry, its width as a word, and the shape relations of the operations. -/
structure Table (F : FTy → Type) (n : ℕ) (φ : FTy) where
  start : BitVec φ.bits
  low : F φ
  width : BitVec 32
  format : FKind.Formats φ
  start_eq : start = FKind.maximumf.neutral φ format
  reduces : (Rows n).Reduces [1] S512
  spreads : S512x1.Broadcasts (Rows n)
  counts : (Rows n).Iotas .tc 32 [1]

namespace Table

variable {n : ℕ} {φ : FTy} (T : Table F n φ)

/-- Each entry's column number. -/
abbrev column : IVec (Rows n) 32 := iota .tc (Rows n) 32 [1] T.counts

/-- One value per row, repeated along the row. -/
abbrev spread {α : Type} (b : S512x1.Idx → α) : (Rows n).Idx → α := broadcastTo (Rows n) b T.spreads

/-- The greatest entry of each row, the rows in one line. -/
def peak (v : FVec F (Rows n) φ) : FVec F S512 φ :=
  multiReduction .maximumf [1] S512 v T.start T.reduces T.format T.start_eq

/-- The greatest entry of each row, the rows in a column. -/
def best (v : FVec F (Rows n) φ) : FVec F S512x1 φ := shapeCast S512x1 (T.peak v) shapeCasts_S512_S512x1

/-- Where each row's greatest entry stands. -/
def tied (v : FVec F (Rows n) φ) : IVec (Rows n) 1 := cmpf .oeq v (T.spread (T.best v))

/-- The least column number at which each row's greatest entry stands. -/
def place (v : FVec F (Rows n) φ) : IVec S512 32 :=
  multiReductionI .minsi [1] S512 (select (T.tied v) T.column (broadcast (Rows n) T.width))
    2147483647#32 T.reduces rfl

/-- The one entry of each row that the round strikes out. -/
def struck (v : FVec F (Rows n) φ) : IVec (Rows n) 1 :=
  cmpi .eq T.column (T.spread (shapeCast S512x1 (T.place v) shapeCasts_S512_S512x1))

/-- The table after the strike. -/
def strike (v : FVec F (Rows n) φ) : FVec F (Rows n) φ := select (T.struck v) (broadcast (Rows n) T.low) v

/-- Result `k` of each row: the greatest entry after `k` strikes. -/
def result (v : FVec F (Rows n) φ) (k : ℕ) : FVec F S512x1 φ := T.best (T.strike^[k] v)

/-- Results counted from a table that already had `i` strikes. -/
theorem result_strikes (v : FVec F (Rows n) φ) (i k : ℕ) : T.result (T.strike^[i] v) k = T.result v (k + i) := by
  rw [result, result, Function.iterate_add_apply]

/-- The sixteen results of each row, side by side. -/
def top (v : FVec F (Rows n) φ) : FVec F S512x16 φ :=
  concatenate S512x16 1 [⟨S512x1, T.result v 0⟩, ⟨S512x1, T.result v 1⟩, ⟨S512x1, T.result v 2⟩, ⟨S512x1, T.result v 3⟩,
      ⟨S512x1, T.result v 4⟩, ⟨S512x1, T.result v 5⟩, ⟨S512x1, T.result v 6⟩, ⟨S512x1, T.result v 7⟩,
      ⟨S512x1, T.result v 8⟩, ⟨S512x1, T.result v 9⟩, ⟨S512x1, T.result v 10⟩, ⟨S512x1, T.result v 11⟩,
      ⟨S512x1, T.result v 12⟩, ⟨S512x1, T.result v 13⟩, ⟨S512x1, T.result v 14⟩, ⟨S512x1, T.result v 15⟩]
    concatenates_S512x1_S512x1_S512x1_S512x1_S512x1_S512x1_S512x1_S512x1_S512x1_S512x1_S512x1_S512x1_S512x1_S512x1_S512x1_S512x1_S512x16_d1

end Table

/-- The bf16 block that a device holds. -/
def blockTable : Table F 4096 .bf16 where
  start := 0xFF80#16
  low := Scalar.truncf .bf16 bitsLt_bf16_f32 (Scalar.ofBits .f32 0xFF800000#32)
  width := 4096#32
  format := .inr rfl
  start_eq := rfl
  reduces := reduces_S512x4096_S512
  spreads := broadcasts_S512x1_S512x4096
  counts := iota_S512x4096_d1_w32

/-- The f32 table of the thirty-two candidates. -/
def mergeTable : Table F 32 .f32 where
  start := 0xFF800000#32
  low := Scalar.ofBits .f32 0xFF800000#32
  width := 32#32
  format := .inl rfl
  start_eq := rfl
  reduces := reduces_S512x32_S512
  spreads := broadcasts_S512x1_S512x32
  counts := iota_S512x32_d1_w32

/-- The block as the first round reads it (a reshape to the same shape). -/
abbrev entries (x : FVec F S512x4096 .bf16) : FVec F (Rows 4096) .bf16 := shapeCast S512x4096 x shapeCasts_S512x4096_S512x4096

/-- The sixteen candidates of a device's block. -/
def candidates (x : FVec F S512x4096 .bf16) : FVec F S512x16 .bf16 := blockTable.top (entries x)

/-- The candidates widened to f32 and padded with −∞ to whole tiles: what a device sends. -/
def parcel (t : FVec F S512x16 .bf16) : FVec F S512x128 .f32 := k0_pay32 t k0_pay31

/-- The thirty-two candidates: a device's own ones, then the ones that arrived. -/
abbrev both (t : FVec F S512x16 .bf16) (u : FVec F S512x16 .f32) : FVec F (Rows 32) .f32 := k0_pay33 t u

/-- The sixteen results, from a device's own candidates and the ones that arrived. -/
def merged (t : FVec F S512x16 .bf16) (u : FVec F S512x16 .f32) : FVec F S512x16 .f32 := mergeTable.top (both t u)

/-- The column numbers of the block and of the candidates' table. -/
abbrev blockColumn : IVec S512x4096 32 := iota .tc S512x4096 32 [1] iota_S512x4096_d1_w32
@[inherit_doc blockColumn]
abbrev mergeColumn : IVec S512x32 32 := iota .tc S512x32 32 [1] iota_S512x32_d1_w32

/-- One value per row, repeated along the block's row. -/
abbrev blockSpread {α : Type} (b : S512x1.Idx → α) : S512x4096.Idx → α := broadcastTo S512x4096 b broadcasts_S512x1_S512x4096

/-! ## The printed values are these rounds

The kernel's straight line of operations comes in pieces of a fixed length, so a piece may end inside a round. Each
theorem takes one piece: from what the piece is handed to what it hands on. -/

section Block

variable (x : FVec F S512x4096 .bf16) (w : FVec F (Rows 4096) .bf16)

set_option maxRecDepth 65536

/-- The first piece over the block: one round, and the second row maximum. -/
theorem block1 : k0_pay3 x = blockTable.result (entries x) 0 ∧ k0_pay4 x = blockTable.strike^[1] (entries x)
    ∧ k0_pay5 x = blockTable.result (entries x) 1 ∧ k0_pay6 x = blockSpread (blockTable.best (blockTable.strike^[1] (entries x))) := by
  simp only [Table.result, Function.iterate_succ_apply, Function.iterate_zero_apply]; exact ⟨rfl, rfl, rfl, rfl⟩

/-- The second piece: three strikes. -/
theorem block2 : k0_pay8 blockColumn w (blockSpread (blockTable.best w)) = blockTable.result w 1
    ∧ k0_pay10 blockColumn w (blockSpread (blockTable.best w)) = blockTable.result w 2
    ∧ k0_pay11 blockColumn w (blockSpread (blockTable.best w)) = blockTable.strike^[3] w
    ∧ k0_pay12 blockColumn w (blockSpread (blockTable.best w)) = blockTable.result w 3
    ∧ k0_pay13 blockColumn w (blockSpread (blockTable.best w)) = blockTable.struck (blockTable.strike^[3] w) := by
  simp only [Table.result, Function.iterate_succ_apply, Function.iterate_zero_apply]; exact ⟨rfl, rfl, rfl, rfl, rfl⟩

/-- The third piece: four strikes. -/
theorem block3 : k0_pay15 w (blockTable.struck w) = blockTable.result w 1 ∧ k0_pay17 blockColumn w (blockTable.struck w) = blockTable.result w 2
    ∧ k0_pay19 blockColumn w (blockTable.struck w) = blockTable.result w 3 ∧ k0_pay20 blockColumn w (blockTable.struck w) = blockTable.strike^[4] w
    ∧ k0_pay21 blockColumn w (blockTable.struck w) = blockTable.result w 4
    ∧ k0_pay22 blockColumn w (blockTable.struck w) = blockTable.tied (blockTable.strike^[4] w) := by
  simp only [Table.result, Function.iterate_succ_apply, Function.iterate_zero_apply]; exact ⟨rfl, rfl, rfl, rfl, rfl, rfl⟩

/-- The fourth piece: three strikes. -/
theorem block4 : k0_pay24 blockColumn w (blockTable.tied w) = blockTable.result w 1 ∧ k0_pay26 blockColumn w (blockTable.tied w) = blockTable.result w 2
    ∧ k0_pay27 blockColumn w (blockTable.tied w) = blockTable.strike^[3] w ∧ k0_pay28 blockColumn w (blockTable.tied w) = blockTable.result w 3
    ∧ k0_pay29 blockColumn w (blockTable.tied w) = blockTable.struck (blockTable.strike^[3] w) := by
  simp only [Table.result, Function.iterate_succ_apply, Function.iterate_zero_apply]; exact ⟨rfl, rfl, rfl, rfl, rfl⟩

/-- The last piece: after eleven strikes it makes four more and sets the sixteen results side by side. -/
theorem block5 (v : FVec F (Rows 4096) .bf16) :
    k0_pay30 blockColumn (blockTable.result v 0) (blockTable.result v 1) (blockTable.result v 2) (blockTable.result v 3) (blockTable.result v 4) (blockTable.result v 5)
      (blockTable.result v 6) (blockTable.result v 7) (blockTable.result v 8) (blockTable.result v 9) (blockTable.result v 10) (blockTable.strike^[11] v)
      (blockTable.result v 11) (blockTable.struck (blockTable.strike^[11] v)) (Scalar.ofBits .f32 0xFF800000#32) = blockTable.top v := by
  unfold k0_pay30
  simp only [Table.top, Table.result, Function.iterate_succ_apply, Function.iterate_zero_apply]; rfl

end Block

section Merge

variable (t : FVec F S512x16 .bf16) (u : FVec F S512x16 .f32) (w : FVec F (Rows 32) .f32)

set_option maxRecDepth 65536

/-- The first piece over the candidates. -/
theorem merge1 : k0_pay34 t u = mergeTable.result (both t u) 0 ∧ k0_pay35 t u = mergeTable.strike^[1] (both t u)
    ∧ k0_pay36 t u = mergeTable.result (both t u) 1 ∧ k0_pay37 t u = mergeTable.tied (mergeTable.strike^[1] (both t u)) := by
  simp only [Table.result, Function.iterate_succ_apply, Function.iterate_zero_apply]; exact ⟨rfl, rfl, rfl, rfl⟩

/-- The second piece: four strikes, and the row maximum after them. -/
theorem merge2 : k0_pay39 mergeColumn w (mergeTable.tied w) 32#32 = mergeTable.result w 1 ∧ k0_pay41 mergeColumn w (mergeTable.tied w) 32#32 = mergeTable.result w 2
    ∧ k0_pay43 mergeColumn w (mergeTable.tied w) 32#32 = mergeTable.result w 3 ∧ k0_pay44 mergeColumn w (mergeTable.tied w) 32#32 = mergeTable.strike^[4] w
    ∧ k0_pay45 mergeColumn w (mergeTable.tied w) 32#32 = mergeTable.peak (mergeTable.strike^[4] w) := by
  simp only [Table.result, Function.iterate_succ_apply, Function.iterate_zero_apply]; exact ⟨rfl, rfl, rfl, rfl, rfl⟩

/-- The third piece: three strikes. -/
theorem merge3 : k0_pay46 (mergeTable.peak w) = mergeTable.result w 0 ∧ k0_pay48 mergeColumn w (mergeTable.peak w) = mergeTable.result w 1
    ∧ k0_pay50 mergeColumn w (mergeTable.peak w) = mergeTable.result w 2 ∧ k0_pay51 mergeColumn w (mergeTable.peak w) = mergeTable.strike^[3] w
    ∧ k0_pay52 mergeColumn w (mergeTable.peak w) = mergeTable.result w 3
    ∧ k0_pay53 mergeColumn w (mergeTable.peak w) = mergeTable.struck (mergeTable.strike^[3] w) := by
  simp only [Table.result, Function.iterate_succ_apply, Function.iterate_zero_apply]; exact ⟨rfl, rfl, rfl, rfl, rfl, rfl⟩

/-- The fourth piece: four strikes, and the place of the next. -/
theorem merge4 : k0_pay55 w (mergeTable.struck w) (Scalar.ofBits .f32 0xFF800000#32) = mergeTable.result w 1
    ∧ k0_pay57 mergeColumn w (mergeTable.struck w) (Scalar.ofBits .f32 0xFF800000#32) = mergeTable.result w 2
    ∧ k0_pay59 mergeColumn w (mergeTable.struck w) (Scalar.ofBits .f32 0xFF800000#32) = mergeTable.result w 3
    ∧ k0_pay60 mergeColumn w (mergeTable.struck w) (Scalar.ofBits .f32 0xFF800000#32) = mergeTable.strike^[4] w
    ∧ k0_pay61 mergeColumn w (mergeTable.struck w) (Scalar.ofBits .f32 0xFF800000#32) = mergeTable.result w 4
    ∧ k0_pay62 mergeColumn w (mergeTable.struck w) (Scalar.ofBits .f32 0xFF800000#32) = mergeTable.place (mergeTable.strike^[4] w) := by
  simp only [Table.result, Function.iterate_succ_apply, Function.iterate_zero_apply]; exact ⟨rfl, rfl, rfl, rfl, rfl, rfl⟩

/-- The last piece: after twelve strikes it makes three more and sets the sixteen results side by side. -/
theorem merge5 (v : FVec F (Rows 32) .f32) :
    k0_pay1 mergeColumn (mergeTable.result v 0) (mergeTable.result v 1) (mergeTable.result v 2) (mergeTable.result v 3) (mergeTable.result v 4) (mergeTable.result v 5)
      (mergeTable.result v 6) (mergeTable.result v 7) (mergeTable.result v 8) (mergeTable.result v 9) (mergeTable.result v 10) (mergeTable.result v 11)
      (mergeTable.strike^[12] v) (mergeTable.result v 12) (mergeTable.place (mergeTable.strike^[12] v)) = mergeTable.top v := by
  simp only [Table.result, Function.iterate_succ_apply, Function.iterate_zero_apply]; rfl

end Merge

end Cert.TopK

end
-- ==== Proof.Plain.lean ====
/-
# The device's program, with its long arithmetic in two values

The program of one device with the sixteen rounds over the block folded into `candidates` and the sixteen rounds
over the thirty-two candidates folded into `merged`. What is left is the exchange: signal and wait at the
partner's door, fill the outbox, send it, wait for both ends, read the inbox, store.
-/
module

public import proofs.«01_k».proof.Proof.Selection

@[expose] public section

set_option synthInstance.maxSize 4096

noncomputable section

namespace Cert.TopK

open Cert.KernelIdeal Cert.KernelIdeal.Gen
open Idealize.ShloMosaic Idealize.SL.Sem

variable {F : FTy → Type} [FloatOps F]

/-- The whole of an array of a given shape, as the kernel's loads and stores name it. -/
abbrev allBlock : Rect S512x4096 := Rect.unit (s := S512x4096) ![0, 0] S512x4096.size inb_S512x4096_S512x4096_0_0
@[inherit_doc allBlock]
abbrev allBox : Rect S512x128 := Rect.unit (s := S512x128) ![0, 0] S512x128.size inb_S512x128_S512x128_0_0
@[inherit_doc allBlock]
abbrev allOut : Rect S512x16 := Rect.unit (s := S512x16) ![0, 0] S512x16.size inb_S512x16_S512x16_0_0
/-- The first sixteen columns of the inbox. -/
abbrev firstCols : Rect S512x128 := Rect.unit (s := S512x128) ![0, 0] S512x16.size inb_S512x128_S512x16_0_0

/-- One device's program over its block `x`, its result `o`, its outbox and inbox and the two transfer semaphores. -/
def plain (x : Memref sig .tc .vmem S512x4096 .bf16) (o : Memref sig .tc .vmem S512x16 .f32)
    (outbox : Memref sig .tc .vmem S512x128 .f32) (hout : outbox.IsWhole)
    (inbox : Memref sig .tc .vmem S512x128 .f32) (hin : inbox.IsWhole) (sent landed : DmaSems sig S_) :
    Prog (TpuEff nD τ sig (Elt F) Λ₀ .tc) PUnit := do
  let d ← Prog.lift .deviceId
  semSignalWord (⟨k0_dev1 d, k0_dev1_lt d⟩ : Dev nD) (SemArray.scalar (sig.barrier 0 rfl) : Sems sig S_).sem 1#32
  semWaitWord (SemArray.scalar (sig.barrier 0 rfl) : Sems sig S_).sem 1#32
  let v : Vec F S512x4096 .bf16 ← Prog.lift (.load x allBlock.toLoadRect (View.loadsAt_vmem h_S512x4096))
  let _ : Vec F S512x128 .f32 ← Prog.lift (.load outbox allBox.toLoadRect (View.loadsAt_vmem h_S512x128))
  Prog.lift (.store outbox allBox (parcel (candidates v)) Finset.univ (View.stores_vmem_bits_univ h_S512x128 rfl) (.inl rfl))
  Prog.lift (.enqueueDma outbox (.remote (Dev.tc (⟨k0_dev2 d, k0_dev2_lt d⟩ : Dev nD)) inbox (.dma sent.sem)) (.dma landed.sem)
    hout.wordExact hin.wordExact ⟨⟨rfl, Or.inl rfl⟩, trivial⟩)
  Prog.lift (.waitDma2 sent.sem inbox outbox hin.wordExact hout.wordExact)
  Prog.lift (.waitDma2 landed.sem outbox inbox hout.wordExact hin.wordExact)
  let u : Vec F S512x16 .f32 ← Prog.lift (.load inbox firstCols.toLoadRect (View.loadsAt_vmem h_S512x16))
  let _ : Vec F S512x16 .f32 ← Prog.lift (.load o allOut.toLoadRect (View.loadsAt_vmem h_S512x16))
  Prog.lift (.store o allOut (merged (candidates v) u) Finset.univ (View.stores_vmem_bits_univ h_S512x16 rfl) (.inl rfl))

set_option maxRecDepth 65536 in
/-- The printed program is that one. -/
theorem body_plain (x : Memref sig .tc .vmem S512x4096 .bf16) (hx : x.IsWhole) (o : Memref sig .tc .vmem S512x16 .f32) (ho : o.IsWhole)
    (outbox : Memref sig .tc .vmem S512x128 .f32) (hout : outbox.IsWhole)
    (inbox : Memref sig .tc .vmem S512x128 .f32) (hin : inbox.IsWhole) (sent landed : DmaSems sig S_) :
    cc0_body (F := F) x hx o ho outbox hout inbox hin sent landed = plain x o outbox hout inbox hin sent landed := by
  simp only [cc0_body_eq_skeleton, cc0_body_skel, k0_part1_eq_skeleton, k0_part1_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    k0_part9_eq_skeleton, k0_part9_skel, plain, semSignalWord, semWaitWord, Prog.lift, Prog.bind_op, Prog.bind_ret, Prog.pure_eq_ret]
  simp only [block1, merge1, block5 _, merge5 _, Table.result_strikes, ← Function.iterate_add_apply, Nat.reduceAdd,
    (block2 _).1, (block2 _).2.1, (block2 _).2.2.1, (block2 _).2.2.2.1, (block2 _).2.2.2.2,
    (block3 _).1, (block3 _).2.1, (block3 _).2.2.1, (block3 _).2.2.2.1, (block3 _).2.2.2.2.1, (block3 _).2.2.2.2.2,
    (block4 _).1, (block4 _).2.1, (block4 _).2.2.1, (block4 _).2.2.2.1, (block4 _).2.2.2.2,
    (merge2 _).1, (merge2 _).2.1, (merge2 _).2.2.1, (merge2 _).2.2.2.1, (merge2 _).2.2.2.2,
    (merge3 _).1, (merge3 _).2.1, (merge3 _).2.2.1, (merge3 _).2.2.2.1, (merge3 _).2.2.2.2.1, (merge3 _).2.2.2.2.2,
    (merge4 _).1, (merge4 _).2.1, (merge4 _).2.2.1, (merge4 _).2.2.2.1, (merge4 _).2.2.2.2.1, (merge4 _).2.2.2.2.2]
  rfl

end Cert.TopK

end
-- ==== Proof.Exchange.lean ====
/-
# The exchange between the two devices that share a row of the table

Devices that agree in their first two mesh coordinates differ in the last bit of their number; they are partners.
Each device has three semaphores in the exchange. Its *door* counts one signal from its partner, which says that
the partner's inbox may be written. *Sent* counts its own transfer's reading of its outbox. *Landed* counts the
partner's transfer's writing of its inbox. This file states who raises each, by how much, and what passes with it.
-/
module

public import proofs.«01_k».proof.Proof.Plain
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- The ghost state: one part for the pipeline's own staging, one for the exchange. -/
abbrev UU : Type := UR sig nD τ × UR sig nD τ

local notation "𝕄" => MT nD τ sig Unit (Elt F) ℕ UU ℕ

@[inherit_doc UU]
abbrev EP : Emb (UR sig nD τ) (MT nD τ sig Unit (Elt F) ℕ UU ℕ) := embL
@[inherit_doc UU]
abbrev ER : Emb (UR sig nD τ) (MT nD τ sig Unit (Elt F) ℕ UU ℕ) := embR

variable (m : (ℓ : Loc nD τ sig) → Buf (Elt F) ℓ) (ρ : Dev nD → PrngReg)

/-- The state the program starts from. -/
def begin₀ : MemSt nD τ sig (Elt F) := ⟨m, fun _ => 0, ρ⟩

/-! ## Partners -/

/-- A device's partner: the last bit of its number flipped. -/
def mate (c : Dev nD) : Dev nD := ⟨(4 * (c.val / 4) + 2 * ((c.val / 2) % 2) + 1) - (c.val % 2), by
  have := c.isLt; revert this; generalize c.val = v; decide +revert⟩

theorem mate_mate (c : Dev nD) : mate (mate c) = c := by revert c; decide

/-- The kernel computes its partner's number twice, for the signal and for the transfer. -/
theorem signals_mate (c : Dev nD) : (⟨k0_dev1 c, k0_dev1_lt c⟩ : Dev nD) = mate c := Fin.ext (k0_dev1_eq c)
@[inherit_doc signals_mate]
theorem sends_to_mate (c : Dev nD) : (⟨k0_dev2 c, k0_dev2_lt c⟩ : Dev nD) = mate c := Fin.ext (k0_dev2_eq c)

/-- Partnership as a permutation of the devices. -/
def matching : Dev nD ≃ Dev nD := ⟨mate, mate, mate_mate, mate_mate⟩

/-! ## The three cells of a device -/

/-- The semaphores: door, sent, landed. -/
abbrev semOf : Fin 3 → SemLoc sig
  | 0 => .reg (SemArray.scalar (sig.barrier 0 rfl) : Sems sig S_).sem
  | 1 => .dma cc0_scratch2.sem
  | 2 => .dma cc0_scratch3.sem

/-- Semaphore `k` of device `c`. -/
abbrev cell (ck : Dev nD × Fin 3) : GSem nD τ sig := ((ck.1 : Thread nD τ), semOf ck.2)

theorem semOf_inj : Function.Injective semOf := by
  intro a b h
  fin_cases a <;> fin_cases b <;> first | rfl | exact absurd h (by decide)

theorem cell_inj : Function.Injective cell := by
  rintro ⟨c, k⟩ ⟨c', k'⟩ h
  have hc : c = c' := congrArg (fun g : GSem nD τ sig => g.1.1) h
  have hk : k = k' := semOf_inj (congrArg Prod.snd h)
  rw [hc, hk]

/-- The array a device sends, and the one it receives in. -/
abbrev outbox : Memref sig .tc .vmem S512x128 .f32 := Memref.whole cc0_scratch0
@[inherit_doc outbox]
abbrev inbox : Memref sig .tc .vmem S512x128 .f32 := Memref.whole cc0_scratch1

/-- What a transfer adds to each of its two semaphores. -/
abbrev N : ℕ := (inbox : Memref sig .tc .vmem S512x128 .f32).view.dmaCredit
theorem N_pos : 0 < N := View.dmaCredit_pos _ (by decide)

/-- The outbox is as large as the inbox. -/
theorem outbox_credit : (outbox : Memref sig .tc .vmem S512x128 .f32).view.dmaCredit = N := rfl

/-- What each cell of a device counts up to. -/
abbrev units : Fin 3 → ℕ
  | 0 => 1
  | 1 => N
  | 2 => N
theorem units_pos : ∀ k, 0 < units k
  | 0 => Nat.one_pos
  | 1 => N_pos
  | 2 => N_pos

/-! ## What the arrays hold -/

/-- A device's block of the table. -/
def block (c : Dev nD) : (cc0_stg0_0 : Ref sig .tc).ty.Contents (Elt F) :=
  (win0_0.blk (0 : Fin 1)).view.read (Elt F) ((begin₀ m ρ).mem ((c : Thread nD τ).loc main_arg0))

/-- What a device sends: its sixteen candidates, padded. -/
def letter (c : Dev nD) : (cc0_scratch0 : Ref sig .tc).ty.Contents (Elt F) := parcel (candidates (block m ρ c))

/-- What a device stores as its result: the best of its own candidates and of its partner's. -/
def outcome (c : Dev nD) : (cc0_stg1_0 : Ref sig .tc).ty.Contents (Elt F) :=
  merged (candidates (block m ρ c)) ((inbox : Memref sig .tc .vmem S512x128 .f32).view.readAt (Elt F) firstCols.toLoadRect (letter m ρ (mate c)))

/-- A device's outbox holds `f`. -/
def outHolds (c : Dev nD) (f : Buf (Elt F) ((outbox : Memref sig .tc .vmem S512x128 .f32).view.loc (c : Thread nD τ))) : sProp 𝕄 :=
  (outbox : Memref sig .tc .vmem S512x128 .f32).view.loc (c : Thread nD τ) ↦[(outbox : Memref sig .tc .vmem S512x128 .f32).view.set]{fullShare} f
/-- A device's inbox holds `f`. -/
def inHolds (c : Dev nD) (f : Buf (Elt F) ((inbox : Memref sig .tc .vmem S512x128 .f32).view.loc (c : Thread nD τ))) : sProp 𝕄 :=
  (inbox : Memref sig .tc .vmem S512x128 .f32).view.loc (c : Thread nD τ) ↦[(inbox : Memref sig .tc .vmem S512x128 .f32).view.set]{fullShare} f

instance outHolds_storable (c : Dev nD) (f) : BI.Storable (upEmb : UEmb _ 𝕄) (outHolds (F := F) c f) := by unfold outHolds; infer_instance
instance inHolds_storable (c : Dev nD) (f) : BI.Storable (upEmb : UEmb _ 𝕄) (inHolds (F := F) c f) := by unfold inHolds; infer_instance

theorem outHolds_eq (c : Dev nD) (f : Buf (Elt F) ((c : Thread nD τ).loc cc0_scratch0)) :
    outHolds c f = (((c : Thread nD τ).loc cc0_scratch0) ↦{fullShare} f : sProp 𝕄) := by unfold outHolds; rw [View.set_whole]
theorem inHolds_eq (c : Dev nD) (f : Buf (Elt F) ((c : Thread nD τ).loc cc0_scratch1)) :
    inHolds c f = (((c : Thread nD τ).loc cc0_scratch1) ↦{fullShare} f : sProp 𝕄) := by unfold inHolds; rw [View.set_whole]

/-- A transfer leaves in the inbox what the outbox holds. -/
theorem transfer_copies (fd : (cc0_scratch1 : Ref sig .tc).ty.Contents (Elt F)) (fs : (cc0_scratch0 : Ref sig .tc).ty.Contents (Elt F)) :
    (inbox : Memref sig .tc .vmem S512x128 .f32).view.write (Elt F) fd
      ((outbox : Memref sig .tc .vmem S512x128 .f32).view.read (Elt F) fs) Finset.univ = fs := by
  show (View.whole cc0_scratch1).write (Elt F) fd ((View.whole cc0_scratch0).read (Elt F) fs) Finset.univ = fs
  rw [View.read_whole]; exact View.write_whole_univ _ _ _

/-! ## The schedule: one round in which each cell is raised once -/

/-- What passes with the raise of a device's cell: with the door, the partner's inbox to write in; with *sent*, the
    outbox back; with *landed*, the inbox with the partner's letter. -/
def pay (c : Dev nD) : Fin 3 → sProp 𝕄
  | 0 => iprop((∃ f, inHolds (mate c) f) ∗ reached ER (cell (mate c, 2)) 0)
  | 1 => outHolds c (letter m ρ c)
  | 2 => inHolds c (letter m ρ (mate c))

instance pay_storable (c : Dev nD) : ∀ k, BI.Storable (upEmb : UEmb _ 𝕄) (pay m ρ c k)
  | 0 => by unfold pay; infer_instance
  | 1 => by unfold pay; infer_instance
  | 2 => by unfold pay; infer_instance

/-- The cell number of a semaphore that takes part. -/
def slot (s : SemLoc sig) : Option (Fin 3) := if s = semOf 0 then some 0 else if s = semOf 1 then some 1 else if s = semOf 2 then some 2 else none

theorem slot_semOf : ∀ k, slot (semOf k) = some k := by decide

/-- The schedule of the exchange. -/
def plan : Rounds.Schedule (GSem nD τ sig) Unit 𝕄 where
  duties g r := if r = 0 ∧ g.1.2 = .tc ∧ (slot g.2).isSome then {()} else ∅
  unitless _ := False
  amount g _ _ := ((slot g.2).map units).getD 1
  payload g _ _ := ((slot g.2).map (pay m ρ g.1.1)).getD iprop(emp)
  amount_pos g _ _ _ := by
    rcases slot g.2 with _ | k
    · exact Nat.one_pos
    · exact units_pos k

instance plan_storable (g : GSem nD τ sig) (r : ℕ) (d : Unit) : BI.Storable (upEmb : UEmb _ 𝕄) ((plan (F := F) m ρ).payload g r d) := by
  show BI.Storable upEmb (((slot g.2).map (pay m ρ g.1.1)).getD iprop(emp))
  rcases slot g.2 with _ | k
  · show BI.Storable upEmb iprop(emp); infer_instance
  · exact pay_storable m ρ g.1.1 k

section Plan
variable (c : Dev nD) (k : Fin 3)

/-- In round 0 a cell is raised once, -/
theorem duties_cell : (plan (F := F) m ρ).duties (cell (c, k)) 0 = {()} := by
  dsimp only [plan]; rw [slot_semOf]; exact if_pos ⟨rfl, rfl, rfl⟩
theorem duty_cell : () ∈ (plan (F := F) m ρ).duties (cell (c, k)) 0 := by rw [duties_cell]; exact Finset.mem_singleton_self _
/-- and in no later round; -/
theorem duties_later (g : GSem nD τ sig) : ∀ r, 1 ≤ r → (plan (F := F) m ρ).duties g r = ∅ :=
  fun r hr => by dsimp only [plan]; exact if_neg fun h => by omega
/-- by its units, -/
theorem amount_cell : (plan (F := F) m ρ).amount (cell (c, k)) 0 () = units k := by dsimp only [plan]; rw [slot_semOf]; rfl
theorem expect_cell : (plan (F := F) m ρ).expect (cell (c, k)) 0 = units k := by
  unfold Schedule.expect Schedule.amountOf; rw [duties_cell, Finset.sum_singleton, amount_cell]
/-- with its payload. -/
theorem payload_cell : (plan (F := F) m ρ).payload (cell (c, k)) 0 () = pay m ρ c k := by dsimp only [plan]; rw [slot_semOf]; rfl
theorem rest_cell : bigSep ((plan (F := F) m ρ).duties (cell (c, k)) 0 \ ∅) (fun u => (plan (F := F) m ρ).payload (cell (c, k)) 0 u) = pay m ρ c k := by
  rw [Finset.sdiff_empty, duties_cell, bigSep_singleton, payload_cell]

end Plan

/-! ## What a device owes, and in which order the waits may be made -/

/-- A device owes its partner the transfer's count and one signal. -/
def debt (c : Dev nD) : CellTallies nD τ sig Unit := tallyAt (cell (mate c, 2)) () N + tallyAt (cell (mate c, 0)) () 1

/-- Every semaphore of a device's core has a place in the order: the staging ones and *sent* first, then the door,
    then *landed*. -/
def tags (g : GSem nD τ sig) : Finset Unit := if g.1.2 = .tc then {()} else ∅
@[inherit_doc tags]
def lev (g : GSem nD τ sig) (_ : Unit) : ℕ := if slot g.2 = some 0 then 1 else if slot g.2 = some 2 then 2 else 0
theorem tags_of_ne (g : GSem nD τ sig) (h : g.1.2 ≠ .tc) : tags g = ∅ := if_neg h
theorem mem_tags (c : Dev nD) (s : SemLoc sig) : () ∈ tags ((c : Thread nD τ), s) := by rw [tags, if_pos rfl]; exact Finset.mem_singleton_self _
theorem lev_cell (c : Dev nD) (k : Fin 3) : lev (cell (c, k)) () = if k = 0 then 1 else if k = 2 then 2 else 0 := by
  rw [lev, slot_semOf]; fin_cases k <;> rfl

theorem at_of_pos {g g' : GSem nD τ sig} {u : Unit} {n : ℕ} (h : 0 < tallyAt (Ix := Unit) g () n g' u) : g' = g := by
  by_contra hn
  rw [tallyAt_apply, if_neg fun h' => hn h'.1] at h
  exact Nat.lt_irrefl 0 h

theorem debt_pos {c : Dev nD} {g : GSem nD τ sig} {u : Unit} (h : 0 < debt c g u) : g = cell (mate c, 2) ∨ g = cell (mate c, 0) := by
  rw [debt, Pi.add_apply, Finsupp.add_apply] at h
  rcases Nat.add_pos_iff_pos_or_pos.mp h with h | h
  · exact .inl (at_of_pos h)
  · exact .inr (at_of_pos h)

/-- A device may wait at a semaphore placed before all the cells it still owes. -/
theorem may_wait (c : Dev nD) (s : SemLoc sig) (O : CellTallies nD τ sig Unit) (hO : ∀ g u, 0 < O g u → ∃ k, k ≠ 1 ∧ g = cell (mate c, k) ∧ lev ((c : Thread nD τ), s) () < lev g ()) :
    (levAts tags lev : sProp 𝕄) ⊢ MayWait (c : Thread nD τ) s () O :=
  MayOwe.of_cut (L := tags) (lev := lev) (lev ((c : Thread nD τ), s) ()) (fun p hp => by rw [Finset.mem_singleton.mp hp]; exact mem_tags c s)
    (fun g u hg => by obtain ⟨k, -, rfl, -⟩ := hO g u hg; exact mem_tags _ _)
    (fun p hp => by rw [Finset.mem_singleton.mp hp])
    (fun g u hg => by obtain ⟨k, -, -, h⟩ := hO g u hg; exact h)

/-- It waits for its staging before it has paid anything, -/
theorem may_wait_staging (c : Dev nD) (s : SemLoc sig) (hs : slot s = none) (O : CellTallies nD τ sig Unit) (hO : O = debt c ∨ O = 0) :
    (levAts tags lev : sProp 𝕄) ⊢ MayWait (c : Thread nD τ) s () O := by
  rcases hO with rfl | rfl
  · refine may_wait c s _ fun g u hg => ?_
    have hl : lev ((c : Thread nD τ), s) () = 0 := by rw [lev, hs]; rfl
    rcases debt_pos hg with rfl | rfl
    · exact ⟨2, by decide, rfl, by rw [hl, lev_cell]; decide⟩
    · exact ⟨0, by decide, rfl, by rw [hl, lev_cell]; decide⟩
  · rw [MayWait_zero]; iintro -; iempintro

/-- and at its door while it still owes the transfer. -/
theorem may_wait_door (c : Dev nD) :
    (levAts tags lev : sProp 𝕄) ⊢ MayWait (c : Thread nD τ) (semOf 0) () (tallyAt (cell (mate c, 2)) () N) :=
  may_wait c _ _ fun g u hg => ⟨2, by decide, at_of_pos hg, by
    rw [at_of_pos hg, show lev ((c : Thread nD τ), semOf 0) () = lev (cell (c, 0)) () from rfl, lev_cell, lev_cell]; decide⟩

/-! ## What a device starts with and ends with -/

/-- The records that a device uses: its own three cells and its partner's door and *landed*. -/
def records (K : Dev nD × Fin 3 → ℕ) (c : Dev nD) : sProp 𝕄 :=
  iprop(cellInv ER (plan m ρ) (K (c, 0)) (cell (c, 0)) ∗ cellInv ER (plan m ρ) (K (c, 1)) (cell (c, 1)) ∗ cellInv ER (plan m ρ) (K (c, 2)) (cell (c, 2))
    ∗ cellInv ER (plan m ρ) (K (mate c, 0)) (cell (mate c, 0)) ∗ cellInv ER (plan m ρ) (K (mate c, 2)) (cell (mate c, 2))
    ∗ reached ER (cell (mate c, 0)) 0 ∗ reached ER (cell (mate c, 2)) 0 ∗ reached ER (cell (c, 1)) 0 ∗ reached ER (cell (c, 2)) 0)

instance records_persistent (K : Dev nD × Fin 3 → ℕ) (c : Dev nD) : BI.Persistent (records m ρ K c) := by unfold records; infer_instance

/-- The raises that a device makes: its partner's door, its partner's *landed*, its own *sent*. -/
def raises (c : Dev nD) : sProp 𝕄 :=
  iprop(dutyTok ER (cell (mate c, 0)) 0 () ∗ dutyTok ER (cell (mate c, 2)) 0 () ∗ dutyTok ER (cell (c, 1)) 0 ())

/-- A device's own cells, none waited for yet. -/
def fresh (c : Dev nD) : sProp 𝕄 :=
  iprop(atPos ER (cell (c, 0)) 0 ∅ 0 ∗ atPos ER (cell (c, 1)) 0 ∅ 0 ∗ atPos ER (cell (c, 2)) 0 ∅ 0)

/-- What a device has of the exchange at the start. -/
def role (K : Dev nD × Fin 3 → ℕ) (c : Dev nD) : sProp 𝕄 := iprop(records m ρ K c ∗ fresh c ∗ raises c)

/-- All that a device starts with besides its arrays. -/
def start (c : Dev nD) : sProp 𝕄 :=
  iprop((∃ K, role m ρ K c) ∗ cred (tallyAt (cell (c, 0)) () 1) ∗ cred (tallyAt (cell (c, 2)) () N) ∗ levAts tags lev)

/-- Before the device's program: the above, and both boxes with anything in them. -/
def before₀ (c : Dev nD) : sProp 𝕄 := iprop(start m ρ c ∗ (∃ f, outHolds c f) ∗ ∃ f, inHolds c f)
/-- After it: both boxes, and the three semaphores at zero. -/
def after₁ (c : Dev nD) : sProp 𝕄 :=
  iprop((outHolds c (letter m ρ c) ∗ inHolds c (letter m ρ (mate c))) ∗ semVal (cell (c, 0)) 0 ∗ semVal (cell (c, 1)) 0 ∗ semVal (cell (c, 2)) 0)

/-- The run of one device as the pipeline sees it: it reads its block and leaves its outcome. -/
def dats (_ : Fin 1) (c : Dev nD) : Dat τ (Elt F) Unit ℕ UU ℕ cfg0 c where
  A w := (begin₀ m ρ).mem ((cfg0.win w).arr.view.loc (c : Thread nD τ))
  after w _ := match w with
    | ⟨0, _⟩ => block m ρ c
    | ⟨1, _⟩ => outcome m ρ c
  Φ t := match t with
    | ⟨0, _⟩ => before₀ m ρ c
    | ⟨_ + 1, _⟩ => after₁ m ρ c
  q _ := fullShare
  owed t := match t with
    | ⟨0, _⟩ => debt c
    | ⟨_ + 1, _⟩ => 0

end Cert.TopK

end
-- ==== Proof.Body.lean ====
/-
# One device's program, step by step

From what a device has at the start to its outcome stored, both boxes back and its three semaphores at zero.
-/
module

public import proofs.«01_k».proof.Proof.Exchange
public import proofs.«01_k».proof.Proof.Gen.KernelIdeal.Points

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Loads and stores of whole arrays -/

abbrev xArr : Memref sig .tc .vmem S512x4096 .bf16 := Memref.whole cc0_stg0_0
abbrev oArr : Memref sig .tc .vmem S512x16 .f32 := Memref.whole cc0_stg1_0

theorem at_origin : (![0, 0] : Fin 2 → Nat) = fun _ => 0 := funext fun a => by fin_cases a <;> rfl

theorem load_block (f : (cc0_stg0_0 : Ref sig .tc).ty.Contents (Elt F)) :
    (xArr : Memref sig .tc .vmem S512x4096 .bf16).view.readAt (Elt F) allBlock.toLoadRect f = f :=
  Memref.readAt_unit_zero (Elt F) cc0_stg0_0 at_origin _ f
theorem store_outbox (c : Dev nD) (f : (cc0_scratch0 : Ref sig .tc).ty.Contents (Elt F)) :
    ((outbox : Memref sig .tc .vmem S512x128 .f32).access allBox : View sig .tc _ _ _).write (Elt F) f (parcel (candidates (block m ρ c))) Finset.univ
      = letter m ρ c :=
  Memref.write_access_unit_zero_univ (Elt F) cc0_scratch0 at_origin _ f _
theorem store_result (c : Dev nD) (f : (cc0_stg1_0 : Ref sig .tc).ty.Contents (Elt F)) :
    ((oArr : Memref sig .tc .vmem S512x16 .f32).access allOut : View sig .tc _ _ _).write (Elt F) f
      (merged (candidates (block m ρ c)) ((inbox : Memref sig .tc .vmem S512x128 .f32).view.readAt (Elt F) firstCols.toLoadRect (letter m ρ (mate c)))) Finset.univ
      = outcome m ρ c :=
  Memref.write_access_unit_zero_univ (Elt F) cc0_stg1_0 at_origin _ f _

/-! ## The four steps of the exchange -/

abbrev 𝒱₀ : Variants := Variants.none

section Steps

variable (K : Dev nD × Fin 3 → ℕ) (c : Dev nD) (W : Waits sig Unit)

/-- A wait at a device's own cell `j`: the cell's whole round comes, with its payload. -/
theorem wp_take
    {α : Type} {Q : α → sProp 𝕄} {k : PUnit → Prog (TpuEff nD τ sig (Elt F) Λ₀ .tc) α} {w : TpuEff nD τ sig (Elt F) Λ₀ .tc PUnit} (j : Fin 3) {n : ℕ} (hn : n = units j)
    (hw : ∀ K : PUnit → sProp 𝕄, wpE (defs₀ (F := F)) 𝒱₀ (c : Thread nD τ) none Set.univ w K = waitSpec (c : Thread nD τ) Set.univ (semOf j) n K)
    {O : CellTallies nD τ sig Unit} :
    iprop(cellInv ER (plan m ρ) (K (c, j)) (cell (c, j)) ∗ cred (tallyAt (cell (c, j)) () n) ∗ owes (c : Thread nD τ) O W
        ∗ MayWait (c : Thread nD τ) (semOf j) () O ∗ atPos ER (cell (c, j)) 0 ∅ 0)
      ⊢ iprop(((∃ W', owes (c : Thread nD τ) O W' ∗ semVal (cell (c, j)) 0 ∗ pay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HI, Hc, HO, Hmay, Hat⟩ Hk
  iapply (Rounds.wp_wait_rest_token 𝒱₀ ER (plan m ρ) (c : Thread nD τ) none (κ := K (c, j)) hw (Set.mem_univ _) () (O := O) (W := W)
    (R := 0) (m := 0) (T := ∅) (by rw [Nat.zero_add, hn]; exact (expect_cell m ρ c j).symm)) $$ [Hc HO Hmay Hat]
  · isplitr; · iexact HI
    isplitl [Hc]; · iexact Hc
    isplitl [HO]; · iexact HO
    isplitl [Hmay]; · iexact Hmay
    iexact Hat
  iintro ⟨HO, Hat, -, Hpay⟩
  imod (Rounds.cell_close ER (plan m ρ) (Set.mem_univ (K (c, j))) (fun h => h) (R := 0 + 1) (duties_later m ρ (cell (c, j)))) $$ [Hat] with Hz
  · isplitr; · iexact HI
    iexact Hat
  iapply Hk
  iexists _
  isplitl [HO]; · iexact HO
  isplitl [Hz]; · iexact Hz
  iapply (Entails.of_eq (rest_cell m ρ c j)); iexact Hpay

/-- The transfer of the outbox into the partner's inbox. -/
theorem wp_post
    {α : Type} {Q : α → sProp 𝕄} {k : PUnit → Prog (TpuEff nD τ sig (Elt F) Λ₀ .tc) α} (n : Dev nD) (hn : n = mate c) {hsc : (inbox : Memref sig (Dev.tc n : Thread nD τ).2.kind .vmem S512x128 .f32).view.ref.isScScratch = false}
    {hsrc : (outbox : Memref sig .tc .vmem S512x128 .f32).view.WordExact} {hdst : (inbox : Memref sig .tc .vmem S512x128 .f32).view.WordExact}
    {hsem : DmaTarget.Typed .vmem (.dma cc0_scratch3.sem) (.remote (Dev.tc n : Thread nD τ) (inbox : Memref sig .tc .vmem S512x128 .f32) (.dma cc0_scratch2.sem) hsc)}
    (fn : Buf (Elt F) ((inbox : Memref sig .tc .vmem S512x128 .f32).view.loc (mate c : Thread nD τ))) :
    iprop(cellInv ER (plan m ρ) (K (c, 1)) (cell (c, 1)) ∗ cellInv ER (plan m ρ) (K (mate c, 2)) (cell (mate c, 2))
        ∗ outHolds c (letter m ρ c) ∗ inHolds (mate c) fn ∗ owes (c : Thread nD τ) (tallyAt (cell (mate c, 2)) () N) W
        ∗ dutyTok ER (cell (c, 1)) 0 () ∗ reached ER (cell (c, 1)) 0 ∗ dutyTok ER (cell (mate c, 2)) 0 () ∗ reached ER (cell (mate c, 2)) 0)
      ⊢ iprop(((cred (tallyAt (cell (c, 1)) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma outbox (.remote (Dev.tc n : Thread nD τ) inbox (.dma cc0_scratch2.sem) hsc) (.dma cc0_scratch3.sem) hsrc hdst hsem) k) Q) := by
  subst hn
  unfold outHolds inHolds
  exact Rounds.wp_send_pointsTo 𝒱₀ ER (plan m ρ) (c : Thread nD τ) none (κ₁ := K (c, 1)) (κ₂ := K (mate c, 2))
    (r₁ := 0) (r₂ := 0) (d₁ := ()) (d₂ := ()) (fd := fn) (duty_cell m ρ c 1) (duty_cell m ρ (mate c) 2)
    () () N rfl (amount_cell m ρ c 1) (amount_cell m ρ (mate c) 2) 0 (by rw [zero_add]) (W := W)
    (by rw [show (plan (F := F) m ρ).payload ((c : Thread nD τ), .dma cc0_scratch2.sem) 0 () = _ from payload_cell m ρ c 1]; exact BI.Entails.refl _)
    (by rw [show (plan (F := F) m ρ).payload ((mate c : Thread nD τ), .dma cc0_scratch3.sem) 0 () = _ from payload_cell m ρ (mate c) 2]
        unfold pay inHolds; rw [transfer_copies, mate_mate])

end Steps

/-! ## The whole program -/

abbrev at₀ : Fin cfg0.N := t0_0

/-- A staging array holds `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- Before and after the device's program. -/
def pre (c : Dev nD) : sProp 𝕄 :=
  iprop(before₀ m ρ c ∗ (dats m ρ 0 c).owesAt () at₀.castSucc
    ∗ (∃ d, staged c cc0_stg0_0 ((dats m ρ 0 c).before (0 : Fin 2) at₀ d))
    ∗ (∃ d, staged c cc0_stg1_0 ((dats m ρ 0 c).before (1 : Fin 2) at₀ d)))
@[inherit_doc pre]
def post (c : Dev nD) : sProp 𝕄 :=
  iprop(after₁ m ρ c ∗ (dats m ρ 0 c).owesAt () at₀.succ ∗ staged c cc0_stg0_0 (block m ρ c) ∗ staged c cc0_stg1_0 (outcome m ρ c))

set_option maxHeartbeats 800000 in
/-- A device's program takes the one to the other. -/
theorem sound_body (c : Dev nD) :
    pre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => post m ρ c) := by
  rw [body_plain]; unfold plain
  simp only [semSignalWord, semWaitWord, Prog.lift, Prog.bind_op, Prog.bind_ret, Prog.pure_eq_ret, wp_deviceId]
  unfold pre before₀ start role records fresh raises
  iintro ⟨⟨⟨⟨%K, ⟨#Hdoor, #Hsent, #Hland, #HdoorM, #HlandM, #HrDM, #HrLM, #HrS, #HrL⟩, ⟨HatD, HatS, HatL⟩, HtD, HtL, HtS⟩, HcD, HcL, #Hlev⟩,
    ⟨%fo, Hob⟩, ⟨%fi, Hib⟩⟩, Ho, ⟨%d0, %g0, %hg0, Hx⟩, ⟨%d1, %g1, %hg1, Hout⟩⟩
  have hx : g0 = block m ρ c := by rw [hg0]; unfold Dat.before; rw [if_pos (fetch0_0 at₀)]; rfl
  subst hx
  unfold Dat.owesAt Pipeline.owesWithin
  icases Ho with ⟨%W, %hW, HO⟩
  rw [show (dats m ρ 0 c).owed at₀.castSucc = debt c from rfl]
  simp only [signals_mate c]
  -- the signal at the partner's door
  iapply (Rounds.wp_signal 𝒱₀ ER (plan m ρ) (c : Thread nD τ) none (dst := (mate c : Thread nD τ)) (κ := K (mate c, 0))
      (duty_cell m ρ (mate c) 0) ((amount_cell m ρ (mate c) 0).trans (by decide)) () (tallyAt (cell (mate c, 2)) () N) rfl)
    $$ [HO HtD Hib]
  · isplitr; · iexact HdoorM
    isplitl [HO]; · iexact HO
    isplitl [HtD]; · iexact HtD
    isplitl [Hib]
    · iapply (Entails.of_eq (payload_cell m ρ (mate c) 0).symm)
      unfold pay; rw [mate_mate]
      isplitl [Hib]; · iexists fi; iexact Hib
      iexact HrL
    · iexact HrDM
  iintro HO
  -- its own door
  iapply (wp_take m ρ K c W 0 (by decide) (wpE_semWait_eq 𝒱₀ (c : Thread nD τ) none Set.univ)) $$ [HcD HO HatD]
  · isplitr; · iexact Hdoor
    isplitl [HcD]; · iexact HcD
    isplitl [HO]; · iexact HO
    isplitr; · iapply (may_wait_door c); iexact Hlev
    iexact HatD
  iintro ⟨%W1, HO, HzD, Hpay⟩
  unfold pay
  icases Hpay with ⟨⟨%fn, HibM⟩, -⟩
  -- the block read, the outbox filled
  iapply (wp_load 𝒱₀ (c : Thread nD τ) none Set.univ (m := xArr) (Finset.subset_univ _)) $$ Hx; iintro Hx
  rw [load_block]
  ihave Hob := (Entails.of_eq (outHolds_eq c fo)) $$ Hob
  iapply (wp_load 𝒱₀ (c : Thread nD τ) none Set.univ (m := outbox) (Finset.subset_univ _)) $$ Hob; iintro Hob
  iapply (wp_store 𝒱₀ (c : Thread nD τ) none Set.univ (m := outbox) (r := allBox) (Mk := Finset.univ) (Finset.subset_univ _)) $$ Hob; iintro Hob
  rw [store_outbox]
  -- the transfer
  iapply (wp_post m ρ K c W1 _ (sends_to_mate c) fn) $$ [Hob HibM HO HtS HtL]
  · isplitr; · iexact Hsent
    isplitr; · iexact HlandM
    isplitl [Hob]; · iapply (Entails.of_eq (outHolds_eq c (letter m ρ c)).symm); iexact Hob
    isplitl [HibM]; · iexact HibM
    isplitl [HO]; · iexact HO
    isplitl [HtS]; · iexact HtS
    isplitr; · iexact HrS
    isplitl [HtL]; · iexact HtL
    iexact HrLM
  iintro ⟨HcS, HO⟩
  rw [← outbox_credit]
  iapply (wp_take m ρ K c W1 1 (n := (outbox : Memref sig .tc .vmem S512x128 .f32).view.dmaCredit) outbox_credit (wpE_waitDma2_eq 𝒱₀ (c : Thread nD τ) none Set.univ)) $$ [HcS HO HatS]
  · isplitr; · iexact Hsent
    isplitl [HcS]; · iexact HcS
    isplitl [HO]; · iexact HO
    isplitr; · rw [MayWait_zero]; iempintro
    iexact HatS
  iintro ⟨%W2, HO, HzS, Hob⟩
  iapply (wp_take m ρ K c W2 2 (n := N) rfl (wpE_waitDma2_eq 𝒱₀ (c : Thread nD τ) none Set.univ)) $$ [HcL HO HatL]
  · isplitr; · iexact Hland
    isplitl [HcL]; · iexact HcL
    isplitl [HO]; · iexact HO
    isplitr; · rw [MayWait_zero]; iempintro
    iexact HatL
  iintro ⟨%W3, HO, HzL, Hib⟩
  unfold pay
  -- the inbox read, the outcome stored
  ihave Hib := (Entails.of_eq (inHolds_eq c (letter m ρ (mate c)))) $$ Hib
  iapply (wp_load 𝒱₀ (c : Thread nD τ) none Set.univ (m := inbox) (Finset.subset_univ _)) $$ Hib; iintro Hib
  iapply (wp_load 𝒱₀ (c : Thread nD τ) none Set.univ (m := oArr) (Finset.subset_univ _)) $$ Hout; iintro Hout
  iapply (wp_store 𝒱₀ (c : Thread nD τ) none Set.univ (m := oArr) (r := allOut) (Mk := Finset.univ) (Finset.subset_univ _)) $$ Hout; iintro Hout
  rw [store_result, wp_ret]; imodintro
  unfold post after₁ Dat.owesAt Pipeline.owesWithin
  rw [show (dats m ρ 0 c).owed at₀.succ = 0 from rfl]
  isplitl [Hob Hib HzD HzS HzL]
  · isplitl [Hob Hib]
    · isplitl [Hob]; · iexact Hob
      iapply (Entails.of_eq (inHolds_eq c (letter m ρ (mate c))).symm); iexact Hib
    isplitl [HzD]; · iexact HzD
    isplitl [HzS] <;> iassumption
  isplitl [HO]
  · iexists W3
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The same, as the pipeline asks it. -/
theorem body_obligation (c : Dev nD) : BodyObligation (dats (F := F) m ρ 0 c) (defs₀ (F := F)) 𝒱₀ () Set.univ := fun t => by
  rw [fin_N0 t, bigSep_W0, bigSep_W0]
  simp only [owns_staged]
  exact sound_body m ρ c

end Cert.TopK

end
-- ==== Proof.Launch.lean ====
/-
# The run of all eight devices

The exchange's records are made for all devices at once, each device's raises are dealt to the device that makes
them, and the pipeline's launch theorem gives the run: it ends, with every device's result at its outcome, its block
unchanged, and every semaphore at zero.
-/
module

public import proofs.«01_k».proof.Proof.Body
public import Idealize.ShloMosaic.Lib.Pipeline.CollectiveSegs

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's ghost state -/

/-- The two semaphores of the exchange that belong to the kernel's own scratch: sent and landed. -/
abbrev own : Fin 2 → SemLoc sig := fun j => semOf j.succ
theorem own_facts : Pipeline.OwnSemFacts cfg0.spec own := by decide

/-- All twenty-four cells. -/
def cells : Finset (GSem nD τ sig) := Finset.univ.map ⟨cell, cell_inj⟩

/-- The one raise of each cell. -/
abbrev raiseOf (ck : Dev nD × Fin 3) : GSem nD τ sig × ℕ × Unit := (cell ck, 0, ())
theorem raiseOf_inj : Function.Injective raiseOf := fun a b h => cell_inj (congrArg Prod.fst h)
def allRaises : Finset (GSem nD τ sig × ℕ × Unit) := Finset.univ.map ⟨raiseOf, raiseOf_inj⟩

/-- The ghost state at launch. -/
def ghost₀ : UU := (initOf (Pipeline.cells cfgs cellOf_inj) (Pipeline.launchToks cfgs cellOf_inj), initOf cells allRaises)

theorem over_slots (Φ : Fin 3 → sProp 𝕄) : bigSep Finset.univ Φ = iprop(Φ 0 ∗ Φ 1 ∗ Φ 2) :=
  bigSep_univ_eq_bigSepL [0, 1, 2] (by decide) (by decide) Φ

/-- A family over devices and slots, device by device. -/
abbrev each (Φ : Dev nD × Fin 3 → sProp 𝕄) (c : Dev nD) : sProp 𝕄 := bigSep Finset.univ fun k : Fin 3 => Φ (c, k)

theorem bigSep_each (Φ : Dev nD × Fin 3 → sProp 𝕄) : (bigSep Finset.univ fun c => each Φ c) = bigSep Finset.univ Φ := (bigSep_univ_prod Φ).symm

/-- What the launch deals a device for its own three cells. -/
def dealt (c : Dev nD) : sProp 𝕄 :=
  iprop(each (fun ck => roundState ER (plan m ρ) (cell ck) 0) c ∗ each (fun ck => atPos ER (cell ck) 0 ∅ 0) c
    ∗ each (fun ck => reached ER (cell ck) 0) c ∗ each (fun ck => dutyTok ER (cell ck) 0 ()) c)

theorem deal : BI.own (ER (initOf cells allRaises)) ⊢ (|==> bigSep Finset.univ (dealt m ρ) : sProp 𝕄) := by
  have hX (Φ : GSem nD τ sig → sProp 𝕄) : bigSep cells Φ = bigSep Finset.univ fun c => each (fun ck => Φ (cell ck)) c := by
    rw [bigSep_each]; unfold cells; rw [bigSep_map]; rfl
  have hT : bigSep allRaises (fun x => (dutyTok ER x.1 x.2.1 x.2.2 : sProp 𝕄)) = bigSep Finset.univ fun c => each (fun ck => dutyTok ER (cell ck) 0 ()) c := by
    rw [bigSep_each]; unfold allRaises; rw [bigSep_map]; rfl
  iintro HX
  imod (Rounds.fund ER (plan m ρ) cells allRaises) $$ HX with ⟨Hst, Hr, Hat, Htok⟩
  imodintro
  unfold dealt
  rw [bigSep_sep', bigSep_sep', bigSep_sep']
  isplitl [Hst]; · iapply (Entails.of_eq (hX fun g => roundState ER (plan m ρ) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

/-! ## The records, made for all devices at once -/

theorem own_sems (c : Dev nD) : (Pipeline.ownSems0 (Ix := Unit) (Name := ℕ) (U := UU) (Lvl := ℕ) (Val := Elt F) (τ := τ) own c : sProp 𝕄)
    = iprop(semVal (cell (c, 1)) 0 ∗ semVal (cell (c, 2)) 0) := by
  rw [Pipeline.ownSems0_eq_of_list c own [0, 1] (by decide) (by decide)]; rfl
/-- The door is the one semaphore that outlives the kernel. -/
theorem door_sem (c : Dev nD) : (unscopedSems0 c : sProp 𝕄) = semVal (cell (c, 0)) 0 := by
  unfold unscopedSems0; rw [bigSep_eq_bigSepL_of_eq [semOf 0] (by decide) (by decide)]; rfl

/-- A device's three cells become shared records. -/
theorem core_alloc (c : Dev nD) :
    iprop(Pipeline.ownSems0 (Ix := Unit) (Name := ℕ) (U := UU) (Lvl := ℕ) (Val := Elt F) (τ := τ) own c ∗ unscopedSems0 c ∗ dealt m ρ c)
      ⊢ |={Set.univ}=> iprop(each (fun ck => iprop(∃ κ : ℕ, cellInv ER (plan m ρ) κ (cell ck))) c ∗ each (fun ck => atPos ER (cell ck) 0 ∅ 0) c
          ∗ each (fun ck => reached ER (cell ck) 0) c ∗ each (fun ck => dutyTok ER (cell ck) 0 ()) c) := by
  have hmake : iprop(each (fun ck => semVal (cell ck) 0) c ∗ each (fun ck => roundState ER (plan m ρ) (cell ck) 0) c)
      ⊢ (|={Set.univ}=> each (fun ck => iprop(∃ κ : ℕ, cellInv ER (plan m ρ) κ (cell ck))) c : sProp 𝕄) := by
    unfold each
    rw [← bigSep_sep']
    exact (bigSep_mono fun k _ => (Rounds.body_intro ER (plan m ρ) (cell (c, k))).trans inv_alloc).trans (bigSep_fupd _ _)
  unfold dealt
  rw [own_sems, door_sem]
  iintro ⟨⟨HS, HL⟩, HD, Hst, Hrest⟩
  imod hmake $$ [HS HL HD Hst] with Hinv
  · isplitr [Hst]
    · unfold each; rw [over_slots]
      isplitl [HD]; · iexact HD
      isplitl [HS] <;> iassumption
    · iexact Hst
  imodintro
  isplitl [Hinv] <;> iassumption

/-- All the records, under the names `K`. -/
def allRecords (K : Dev nD × Fin 3 → ℕ) : sProp 𝕄 :=
  iprop((bigSep Finset.univ fun ck : Dev nD × Fin 3 => cellInv ER (plan m ρ) (K ck) (cell ck))
    ∗ bigSep Finset.univ fun ck : Dev nD × Fin 3 => reached ER (cell ck) 0)

instance allRecords_persistent (K : Dev nD × Fin 3 → ℕ) : BI.Persistent (allRecords m ρ K) := by unfold allRecords; infer_instance

/-- A device picks the records that it uses. -/
theorem pick (K : Dev nD × Fin 3 → ℕ) (c : Dev nD) : allRecords m ρ K ⊢ records m ρ K c := by
  have hi (ck : Dev nD × Fin 3) : (bigSep Finset.univ fun ck : Dev nD × Fin 3 => (cellInv ER (plan m ρ) (K ck) (cell ck) : sProp 𝕄)) ⊢ cellInv ER (plan m ρ) (K ck) (cell ck) :=
    bigSep_elim (Finset.mem_univ ck)
  have hr (ck : Dev nD × Fin 3) : (bigSep Finset.univ fun ck : Dev nD × Fin 3 => (reached ER (cell ck) 0 : sProp 𝕄)) ⊢ reached ER (cell ck) 0 :=
    bigSep_elim (Finset.mem_univ ck)
  unfold allRecords records
  iintro ⟨#HI, #HR⟩
  isplitr; · iapply (hi (c, 0)); iexact HI
  isplitr; · iapply (hi (c, 1)); iexact HI
  isplitr; · iapply (hi (c, 2)); iexact HI
  isplitr; · iapply (hi (mate c, 0)); iexact HI
  isplitr; · iapply (hi (mate c, 2)); iexact HI
  isplitr; · iapply (hr (mate c, 0)); iexact HR
  isplitr; · iapply (hr (mate c, 2)); iexact HR
  isplitr; · iapply (hr (c, 1)); iexact HR
  iapply (hr (c, 2)); iexact HR

/-- The raises, dealt by who makes them: a door's and a *landed*'s go to the partner. -/
theorem deal_raises : (bigSep Finset.univ fun c : Dev nD => (each (fun ck => dutyTok ER (cell ck) 0 ()) c : sProp 𝕄)) ⊢ bigSep Finset.univ raises := by
  have hswap (k : Fin 3) := bigSep_univ_equiv matching (fun c : Dev nD => (dutyTok ER (cell (c, k)) 0 () : sProp 𝕄))
  unfold each raises
  simp only [over_slots]
  rw [bigSep_sep', bigSep_sep', bigSep_sep', bigSep_sep', hswap 0, hswap 2]
  iintro ⟨HD, HS, HL⟩
  isplitl [HD]; · iexact HD
  isplitl [HL]; · iexact HL
  iexact HS

/-- A device's role, from all the records and what is its own. -/
theorem role_intro (K : Dev nD × Fin 3 → ℕ) (c : Dev nD) : iprop(allRecords m ρ K ∗ fresh c ∗ raises c) ⊢ iprop(∃ K, role m ρ K c) := by
  unfold role
  iintro ⟨#HA, Hmine⟩
  iexists K
  isplitr; · iapply (pick m ρ K c); iexact HA
  iexact Hmine

theorem fresh_eq (c : Dev nD) : (each (fun ck => atPos ER (cell ck) 0 ∅ 0) c : sProp 𝕄) = fresh c := by unfold each fresh; rw [over_slots]

/-- Every device's role, from the records under any names and the dealt raises. -/
theorem regroup :
    (bigSep Finset.univ fun c : Dev nD => iprop(each (fun ck => iprop(∃ κ : ℕ, cellInv ER (plan m ρ) κ (cell ck))) c ∗ each (fun ck => atPos ER (cell ck) 0 ∅ 0) c
        ∗ each (fun ck => reached ER (cell ck) 0) c ∗ each (fun ck => dutyTok ER (cell ck) 0 ()) c) : sProp 𝕄)
      ⊢ bigSep Finset.univ fun c => iprop(∃ K, role m ρ K c) := by
  rw [bigSep_sep', bigSep_sep', bigSep_sep', bigSep_each, bigSep_each (fun ck => reached ER (cell ck) 0)]
  iintro ⟨HI, Hat, #HR, Htok⟩
  ihave HK := (BI.bigSep_exists_pi Finset.univ (fun (ck : Dev nD × Fin 3) (κ : ℕ) => (cellInv ER (plan m ρ) κ (cell ck) : sProp 𝕄))) $$ HI
  icases HK with ⟨%K, #HI⟩
  ihave Htok := (deal_raises (F := F)) $$ Htok
  have hrole : iprop(allRecords m ρ K ∗ bigSep Finset.univ fun c => iprop(fresh c ∗ raises c)) ⊢ (bigSep Finset.univ fun c => iprop(∃ K, role m ρ K c) : sProp 𝕄) :=
    (sep_mono_left (BI.bigSep_of_persistent Finset.univ (allRecords m ρ K))).trans (by
      rw [← bigSep_sep']; exact bigSep_mono fun c _ => role_intro m ρ K c)
  iapply hrole
  isplitr
  · unfold allRecords; isplitl; · iexact HI
    iexact HR
  · rw [bigSep_sep']
    isplitl [Hat]
    · iapply (Entails.of_eq (bigSep_congr fun c _ => fresh_eq (F := F) c))
      iexact Hat
    · iexact Htok

/-- The step over all devices: from semaphores at zero and the dealt state to every device's role. -/
theorem glob :
    (bigSep Finset.univ fun c => iprop(Pipeline.ownSems0 (Ix := Unit) (Name := ℕ) (U := UU) (Lvl := ℕ) (Val := Elt F) (τ := τ) own c ∗ unscopedSems0 c ∗ dealt m ρ c) : sProp 𝕄)
      ⊢ |={Set.univ}=> bigSep Finset.univ fun c => iprop(∃ K, role m ρ K c) :=
  ((bigSep_mono fun c _ => core_alloc m ρ c).trans (bigSep_fupd _ _)).trans (BI.fupd_mono (regroup m ρ))

/-! ## What is owed at launch -/

/-- What device `d` owes cell `k` of device `c`. -/
theorem owed_cell (d c : Dev nD) (k : Fin 3) : debt d (cell (c, k)) () = if d = mate c then (if k = 1 then 0 else units k) else 0 := by
  have hcell (j : Fin 3) : Iff (cell (c, k) = cell (mate d, j)) (d = mate c ∧ k = j) := by
    rw [cell_inj.eq_iff, Prod.mk.injEq]
    exact and_congr_left' ⟨fun h => by rw [h, mate_mate], fun h => by rw [h, mate_mate]⟩
  rw [debt, Pi.add_apply, Finsupp.add_apply, tallyAt_apply, tallyAt_apply]
  simp only [hcell, and_true]
  by_cases h : d = mate c
  · subst h; fin_cases k <;> simp
  · simp [h]

/-- A device's door and *landed* start with one signal and one transfer owed to them. -/
theorem launch_cell (c : Dev nD) (k : Fin 3) (hk : k ≠ 1) :
    tallyOn (cell (c, k)) (launchCredit (Pipeline.owing debt) 0 (cell (c, k))) = (tallyAt (cell (c, k)) () (units k) : CellTallies nD τ sig Unit) := by
  unfold tallyAt; refine congrArg _ (Finsupp.ext fun u => ?_); cases u
  rw [Pipeline.launchCredit_owing, Finsupp.single_eq_same, Finset.sum_congr rfl fun d _ => owed_cell d c k,
    Finset.sum_ite_eq' Finset.univ (mate c) fun _ => _, if_pos (Finset.mem_univ _), if_neg hk]

theorem credits (c : Dev nD) :
    (Pipeline.launchCred debt c : sProp 𝕄) ⊢ iprop(cred (tallyAt (cell (c, 0)) () 1) ∗ cred (tallyAt (cell (c, 2)) () N)) := by
  unfold Pipeline.launchCred
  rw [bigSep_univ_at _ (semOf 0), launch_cell c 0 (by decide)]
  refine sep_mono_right ?_
  rw [← launch_cell c 2 (by decide)]
  exact bigSep_elim (Finset.mem_erase.mpr ⟨semOf_inj.ne (by decide : (2 : Fin 3) ≠ 0), Finset.mem_univ _⟩)

/-! ## The side conditions of the launch -/

theorem start_intro (c : Dev nD) :
    iprop(Pipeline.unscopedRestP Pipeline.Prefetch.none cfg0.spec c (fun b => m ((c : Thread nD τ).loc b)) ∗ levAts tags lev
        ∗ Pipeline.launchCred debt c ∗ prngReg c (ρ c) ∗ ∃ K, role m ρ K c)
      ⊢ |={Set.univ}=> iprop(start m ρ c ∗ emp) := by
  iintro ⟨-, Hlev, Hcr, -, HG⟩
  ihave Hc := (credits (F := F) c) $$ Hcr
  icases Hc with ⟨HD, HL⟩
  imodintro
  unfold start
  isplitl
  · isplitl [HG]; · iexact HG
    isplitl [HD]; · iexact HD
    isplitl [HL] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀
  iintro ⟨Hs, -, ⟨%fo, Ho⟩, ⟨%fi, Hi⟩⟩
  isplitl [Hs]; · iexact Hs
  isplitl [Ho]
  · iexists fo; rw [outHolds_eq]; iexact Ho
  · iexists fi; rw [inHolds_eq]; iexact Hi

theorem leave (c : Dev nD) :
    (dats m ρ 0 c).Φ (Fin.last cfg0.N) ⊢ iprop(unscopedSems0 c ∗ Pipeline.ownSems0 own c ∗ Pipeline.scopedRest cfg0.spec c) := by
  rw [show (dats m ρ 0 c).Φ (Fin.last cfg0.N) = after₁ m ρ c from rfl, scopedRest0_eq, own_sems, door_sem]
  unfold after₁
  iintro ⟨⟨Ho, Hi⟩, HD, HS, HL⟩
  isplitl [HD]; · iexact HD
  isplitl [HS HL]
  · isplitl [HS] <;> iassumption
  isplitl [Ho]
  · iexists (letter m ρ c); rw [← outHolds_eq]; iexact Ho
  · iexists (letter m ρ (mate c)); rw [← inHolds_eq]; iexact Hi

theorem waits (c : Dev nD) : (levAts tags lev : sProp 𝕄) ⊢ Pipeline.cellsWaits cfgs (dats m ρ) () 0 c :=
  Pipeline.cellsWaits_intro cfgs (dats m ρ) () 0 c fun w s t =>
    may_wait_staging c _ (by fin_cases w <;> fin_cases s <;> decide) _ (by
      rcases t with ⟨_ | _, ht⟩
      · exact Or.inl rfl
      · exact Or.inr rfl)

theorem share_full (c : Dev nD) (w : Fin cfg0.W) : (dats m ρ 0 c).share w = fullShare := by unfold Dat.share; split <;> rfl

/-! ## The run -/

/-- What window `w`'s array holds on device `c` in the end. -/
def final (c : Dev nD) (w : Fin cfg0.W) : Buf (Elt F) ((cfg0.win w).arr.view.loc (c : Thread nD τ)) := (dats m ρ 0 c).arrAt w cfg0.N

set_option maxRecDepth 8000 in
/-- For any float values and from any memory, with all semaphores at zero: the program ends, every device's arrays
    hold what `final` says, and every semaphore is at zero. -/
theorem run_main : θ_run defs (onTc (τ := τ) (main (F := F))) (begin₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := debt) (howed₀ := fun _ => rfl) (howedN := fun _ => rfl)
    (L := tags) (lv := lev) (hL := tags_of_ne) (hwaits := waits m ρ)
    (G := dealt m ρ) (G' := fun c => iprop(∃ K, role m ρ K c)) (u₀ := ghost₀)
    (hu₀ := by
      unfold ghost₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block's array is as it was. -/
theorem final_block (c : Dev nD) : final m ρ c (0 : Fin 2) = m ((c : Thread nD τ).loc main_arg0) :=
  (dats (F := F) m ρ 0 c).arrAt_in (0 : Fin 2) rfl _

/-- A window over a whole array reads the array. -/
theorem block_eq (c : Dev nD) : block m ρ c = m ((c : Thread nD τ).loc main_arg0) :=
  Memref.read_access_unit_zero (Elt F) main_arg0 (funext fun a => by fin_cases a <;> decide) (fun a => by fin_cases a <;> decide) _

/-- The result's array holds the outcome. -/
theorem final_outcome (c : Dev nD) : final m ρ c (1 : Fin 2) = outcome m ρ c := by
  have h : (win0_1.blk (0 : Fin 1)).view.read (Elt F) (final m ρ c (1 : Fin 2)) = outcome m ρ c := by
    unfold final
    rw [show cfg0.N = ((0 : Fin 1) : Fin cfg0.N).val + 1 from rfl, (dats m ρ 0 c).arrAt_succ (1 : Fin 2) (0 : Fin 1), show (cfg0.win (1 : Fin 2)).flush (0 : Fin 1) = true from flush0_1 _, if_pos rfl]
    exact View.read_write_univ _ _
  rw [← h]
  exact (Memref.read_access_unit_zero (Elt F) main_v1 (funext fun a => by fin_cases a <;> decide) (fun a => by fin_cases a <;> decide) _).symm

end Cert.TopK

end
-- ==== Proof.Frames.lean ====
/-
# Each program runs to its end and leaves its argument alone

The kernel at both number systems, and the reference: each ends, with its argument unchanged and every semaphore at
zero. The kernel's program is one text at both number systems, so one run serves both.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.TopK

open Idealize.ShloMosaic Idealize.ShloMosaic.TcCoe Idealize.SL.Sem

/-- The kernel, on any number system. -/
theorem frame_any {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ fun r =>
      (∀ c : Dev KernelIdeal.nD, r.2.mem ((c.tc : Thread KernelIdeal.nD KernelIdeal.τ).loc KernelIdeal.main_arg0)
        = m ((c.tc : Thread KernelIdeal.nD KernelIdeal.τ).loc KernelIdeal.main_arg0)) ∧ r.2.sem = fun _ => 0 :=
  (θ_run KernelIdeal.defs _ _).mono (fun _ h => ⟨fun c => (h.1 c (0 : Fin 2)).trans (final_block m ρ c), h.2⟩) (run_main m ρ)

/-- The two printed kernels have the same body. -/
theorem body_same {F : FTy → Type} [FloatOps F] : Kernel.defs₀ (F := F) = KernelIdeal.defs₀ (F := F) := by
  funext k l a
  match k, l with
  | .tc, (0 : Fin 1) => rfl
  | .scScalar _, _ => rfl
  | .scVector _ _, _ => rfl

/-- The two printed kernels are one program. -/
theorem program_same {F : FTy → Type} [FloatOps F] : Kernel.defs (F := F) = KernelIdeal.defs (F := F) :=
  congrArg (Pipeline.defs (Kernel.pcfgs (F := F))) body_same

/-- The kernel on words. -/
theorem frame_kernel : Cert.quiescent_Kernel := fun m ρ _ => by
  rw [program_same]; exact frame_any (F := Bits) m ρ

/-- The kernel on extended reals. -/
theorem frame_kernel_ideal : Cert.quiescent_KernelIdeal := fun m ρ _ => frame_any (F := Ideal) m ρ

/-- The reference on extended reals; it has no semaphores. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopK

end
-- ==== Proof.Rank.lean ====
/-
# The value of a given rank

`IsKth v k t` says that `t` is the entry of rank `k` (counted from zero, greatest first, repeated values counted as
often as they occur) among the values of `v`: at most `k` of them exceed `t`, and more than `k` are at least `t`. Only
one value does that. The reference and the kernel find it in different ways, and this module says why each way is
right: sorting; striking out a greatest entry `k` times and then taking the greatest; and merging the first `q` values
of two families.
-/
module

public import Mathlib.Data.EReal.Basic
public import Mathlib.Data.Fintype.Card
public import Mathlib.Data.Fintype.BigOperators
public import Mathlib.Data.Fintype.Fin
public import Mathlib.Order.Interval.Finset.Fin

@[expose] public section

noncomputable section

namespace Cert.TopK

open Finset

variable {ι κ : Type} [Fintype ι] [Fintype κ]

/-- How many values exceed `t`. -/
def above (v : ι → EReal) (t : EReal) : ℕ := #{i | t < v i}
/-- How many values are at least `t`. -/
def upTo (v : ι → EReal) (t : EReal) : ℕ := #{i | t ≤ v i}

/-- `t` has rank `k` among the values of `v`. -/
def IsKth (v : ι → EReal) (k : ℕ) (t : EReal) : Prop := above v t ≤ k ∧ k < upTo v t

/-- `t` is the greatest value of `v`. -/
def IsTop (v : ι → EReal) (t : EReal) : Prop := (∀ i, v i ≤ t) ∧ ∃ i, v i = t

/-- A lower bound is reached at least as often as a higher one is exceeded. -/
theorem upTo_le_above (v : ι → EReal) {t s : EReal} (h : t < s) : upTo v s ≤ above v t :=
  card_le_card fun i hi => by
    simp only [mem_filter, mem_univ, true_and] at hi ⊢; exact h.trans_le hi

theorem upTo_anti (v : ι → EReal) {t s : EReal} (h : t ≤ s) : upTo v s ≤ upTo v t :=
  card_le_card fun i hi => by
    simp only [mem_filter, mem_univ, true_and] at hi ⊢; exact h.trans hi

theorem above_anti (v : ι → EReal) {t s : EReal} (h : t ≤ s) : above v s ≤ above v t :=
  card_le_card fun i hi => by
    simp only [mem_filter, mem_univ, true_and] at hi ⊢; exact h.trans_lt hi

/-- Only one value has a given rank. -/
theorem IsKth.unique {v : ι → EReal} {k : ℕ} {t s : EReal} (ht : IsKth v k t) (hs : IsKth v k s) : t = s := by
  rcases lt_trichotomy t s with h | h | h
  · exact absurd (hs.2.trans_le ((upTo_le_above v h).trans ht.1)) (lt_irrefl _)
  · exact h
  · exact absurd (ht.2.trans_le ((upTo_le_above v h).trans hs.1)) (lt_irrefl _)

/-- Renaming the places keeps ranks. -/
theorem IsKth.rename (e : κ ≃ ι) {v : ι → EReal} {k : ℕ} {t : EReal} (h : IsKth (fun i => v (e i)) k t) : IsKth v k t := by
  have above_eq : above (fun i => v (e i)) t = above v t :=
    card_bij (fun i _ => e i) (fun i hi => by simpa using hi) (fun i _ j _ h => e.injective h)
      (fun j hj => ⟨e.symm j, by simpa using hj, e.apply_symm_apply j⟩)
  have upTo_eq : upTo (fun i => v (e i)) t = upTo v t :=
    card_bij (fun i _ => e i) (fun i hi => by simpa using hi) (fun i _ j _ h => e.injective h)
      (fun j hj => ⟨e.symm j, by simpa using hj, e.apply_symm_apply j⟩)
  exact ⟨above_eq ▸ h.1, upTo_eq ▸ h.2⟩

/-! ## Sorting -/

/-- In a family that never rises, the entry at place `k` has rank `k`. -/
theorem IsKth.of_antitone {n : ℕ} {w : Fin n → EReal} (hw : Antitone w) (k : Fin n) : IsKth w k (w k) := by
  constructor
  · calc above w (w k) ≤ #(Iio k) := card_le_card fun i hi => by
          simp only [mem_filter, mem_univ, true_and, mem_Iio] at hi ⊢
          exact lt_of_not_ge fun h => absurd hi (not_lt.mpr (hw h))
      _ = k := Fin.card_Iio k
  · calc (k : ℕ) < #(Iic k) := by rw [Fin.card_Iic]; exact Nat.lt_succ_self _
      _ ≤ upTo w (w k) := card_le_card fun i hi => by
          simp only [mem_filter, mem_univ, true_and, mem_Iic] at hi ⊢
          exact hw hi

/-! ## Striking out -/

/-- The greatest value has rank zero. -/
theorem IsTop.isKth {v : ι → EReal} {t : EReal} (h : IsTop v t) : IsKth v 0 t := by
  obtain ⟨hle, i, hi⟩ := h
  refine ⟨le_of_eq (card_eq_zero.mpr (filter_eq_empty_iff.mpr fun j _ => not_lt.mpr (hle j))), ?_⟩
  exact card_pos.mpr ⟨i, by simp [hi]⟩

/-- `w` is `v` with one greatest entry written over by −∞. -/
def Strikes [DecidableEq ι] (v w : ι → EReal) : Prop := ∃ p, (∀ i, v i ≤ v p) ∧ w = Function.update v p ⊥

/-- A rank after a strike is one more before it, as long as there are so many entries. -/
theorem IsKth.before_strike [DecidableEq ι] {v w : ι → EReal} (hs : Strikes v w) {k : ℕ} {t : EReal}
    (h : IsKth w k t) (hk : k + 1 < Fintype.card ι) : IsKth v (k + 1) t := by
  obtain ⟨p, hp, rfl⟩ := hs
  constructor
  · have hsub : ({i | t < v i} : Finset ι) ⊆ insert p ({i | t < Function.update v p ⊥ i} : Finset ι) := fun i hi => by
      by_cases hip : i = p
      · exact mem_insert.mpr (.inl hip)
      · simp only [mem_filter, mem_univ, true_and] at hi
        exact mem_insert.mpr (.inr (by simp [hip, hi]))
    exact (card_le_card hsub).trans ((card_insert_le _ _).trans (Nat.succ_le_succ h.1))
  · by_cases ht : t = ⊥
    · subst ht
      exact hk.trans_eq (by simp [upTo])
    · have hne : ∀ i, t ≤ Function.update v p ⊥ i → i ≠ p := fun i hi hip => by
        subst hip; simp [ht] at hi
      obtain ⟨q, hq⟩ := card_pos.mp (Nat.zero_lt_of_lt h.2)
      simp only [mem_filter, mem_univ, true_and] at hq
      have htp : t ≤ v p := by
        have := hne q hq
        rw [Function.update_of_ne this] at hq
        exact hq.trans (hp q)
      have hsub : insert p ({i | t ≤ Function.update v p ⊥ i} : Finset ι) ⊆ ({i | t ≤ v i} : Finset ι) := fun i hi => by
        rcases mem_insert.mp hi with rfl | hi
        · simpa using htp
        · simp only [mem_filter, mem_univ, true_and] at hi ⊢
          rwa [Function.update_of_ne (hne i hi)] at hi
      have hcard := card_le_card hsub
      rw [card_insert_of_notMem (by simp [ht])] at hcard
      exact (Nat.succ_lt_succ h.2).trans_le hcard

/-- The greatest entry after `k` strikes has rank `k`. -/
theorem IsKth.of_strikes [DecidableEq ι] (s : ℕ → ι → EReal) (hs : ∀ k, Strikes (s k) (s (k + 1))) {k : ℕ}
    (hk : k < Fintype.card ι) {t : EReal} (ht : IsTop (s k) t) : IsKth (s 0) k t := by
  have : ∀ k j, k < Fintype.card ι → IsTop (s (j + k)) t → IsKth (s j) k t := by
    intro k
    induction k with
    | zero => exact fun j _ h => h.isKth
    | succ k ih =>
      intro j hk h
      exact (ih (j + 1) (Nat.lt_of_succ_lt hk) (by rwa [Nat.add_right_comm, Nat.add_assoc])).before_strike (hs j) hk
  exact this k 0 hk (by rwa [Nat.zero_add])

/-! ## Merging -/

/-- How many of the first `q` values by rank exceed `t`: as many as exceed it at all, but no more than `q`. -/
theorem above_first {q : ℕ} {v : ι → EReal} {f : Fin q → EReal} (hf : ∀ j : Fin q, IsKth v j (f j)) (t : EReal) :
    above f t = min q (above v t) := by
  have h : ∀ j : Fin q, t < f j ↔ (j : ℕ) < above v t := fun j =>
    ⟨fun h => (hf j).2.trans_le (upTo_le_above v h),
     fun h => lt_of_not_ge fun hle => absurd h (not_lt.mpr ((above_anti v hle).trans (hf j).1))⟩
  unfold above at h ⊢
  simp only [h]
  exact Fin.card_filter_val_lt

/-- How many of the first `q` values by rank are at least `t`, likewise. -/
theorem upTo_first {q : ℕ} {v : ι → EReal} {f : Fin q → EReal} (hf : ∀ j : Fin q, IsKth v j (f j)) (t : EReal) :
    upTo f t = min q (upTo v t) := by
  have h : ∀ j : Fin q, t ≤ f j ↔ (j : ℕ) < upTo v t := fun j =>
    ⟨fun h => (hf j).2.trans_le (upTo_anti v h),
     fun h => le_of_not_gt fun hlt => absurd h (not_lt.mpr ((upTo_le_above v hlt).trans (hf j).1))⟩
  unfold upTo at h ⊢
  simp only [h]
  exact Fin.card_filter_val_lt

theorem above_sum (v : ι → EReal) (w : κ → EReal) (t : EReal) : above (Sum.elim v w) t = above v t + above w t := by
  simp only [above, card_filter, Fintype.sum_sum_type, Sum.elim_inl, Sum.elim_inr]; congr

theorem upTo_sum (v : ι → EReal) (w : κ → EReal) (t : EReal) : upTo (Sum.elim v w) t = upTo v t + upTo w t := by
  simp only [upTo, card_filter, Fintype.sum_sum_type, Sum.elim_inl, Sum.elim_inr]; congr

/-- A rank below `q` among the first `q` values of each of two families is that rank among all their values. -/
theorem IsKth.of_merge {q : ℕ} {v : ι → EReal} {w : κ → EReal} {f g : Fin q → EReal} (hf : ∀ j : Fin q, IsKth v j (f j))
    (hg : ∀ j : Fin q, IsKth w j (g j)) {k : ℕ} (hk : k < q) {t : EReal} (h : IsKth (Sum.elim f g) k t) :
    IsKth (Sum.elim v w) k t := by
  obtain ⟨h1, h2⟩ := h
  rw [above_sum, above_first hf, above_first hg] at h1
  rw [upTo_sum, upTo_first hf, upTo_first hg] at h2
  constructor
  · rw [above_sum]; omega
  · rw [upTo_sum]; omega

end Cert.TopK

end
-- ==== Proof.Strike.lean ====
/-
# What one selection round does to one row

Read on the extended reals, a round strikes out one greatest entry of each row: its test for equality finds the places
where the row's maximum stands, the least such column number is the place that it names, and the select writes −∞
there. So the `k`-th result of a row is its value of rank `k`.
-/
module

public import proofs.«01_k».proof.Proof.Selection
public import proofs.«01_k».proof.Proof.Rank
public import Idealize.ShloMosaic.PureOps.Ideal
public import Idealize.ShloMosaic.PureOps.Ideal.Laws
public import Idealize.ShloMosaic.Lib.ValueIdxCore
public import Idealize.ShloMosaic.Lib.ValueLayoutCasts
public import Idealize.ShloMosaic.Lib.Pipeline.Value
public import Idealize.ShloMosaic.Lib.SortNet.Extract

@[expose] public section

noncomputable section

namespace Cert.TopK

open Cert.KernelIdeal Cert.KernelIdeal.Gen
open Idealize.ShloMosaic Idealize.ShloMosaic.ValueIdx

/-- Row `a` of an array of two axes. -/
abbrev row {r n : ℕ} (v : (⟨2, ![r, n]⟩ : Shape).Idx → EReal) (a : Fin r) : Fin n → EReal := fun b => v (ix2 a b)

/-! ## Two folds -/

/-- The maximum from −∞ is the greatest value. -/
theorem fold_max_isTop {n : ℕ} (hn : 0 < n) (f : Fin n → EReal) : IsTop f (Finset.univ.fold max ⊥ f) := by
  have hle : ∀ i, f i ≤ Finset.univ.fold max ⊥ f := fun i =>
    (Finset.le_fold_max _).mpr (.inr ⟨i, Finset.mem_univ i, le_rfl⟩)
  refine ⟨hle, ?_⟩
  rcases (Finset.le_fold_max (Finset.univ.fold max ⊥ f)).mp le_rfl with h | ⟨i, _, h⟩
  · exact ⟨⟨0, hn⟩, (hle _).antisymm (h.trans bot_le)⟩
  · exact ⟨i, (hle i).antisymm h⟩

/-- The signed minimum of words is at most each of them, and is the word it started from or one of them. -/
theorem fold_minsi_spec {ι : Type} [DecidableEq ι] (s : Finset ι) (z : BitVec 32) (f : ι → BitVec 32) :
    (∀ i ∈ s, (s.fold IntOp.minsi z f).toInt ≤ (f i).toInt)
      ∧ (s.fold IntOp.minsi z f = z ∨ ∃ i ∈ s, s.fold IntOp.minsi z f = f i) := by
  induction s using Finset.induction_on with
  | empty => exact ⟨fun i h => absurd h (Finset.notMem_empty i), .inl rfl⟩
  | insert a s ha ih =>
    rw [Finset.fold_insert ha]
    obtain ⟨hle, hmem⟩ := ih
    constructor
    · intro i hi
      rw [SortNet.toInt_minsi]
      rcases Finset.mem_insert.mp hi with rfl | hi
      · exact min_le_left _ _
      · exact (min_le_right _ _).trans (hle i hi)
    · by_cases h : (f a).slt (s.fold IntOp.minsi z f) = true
      · exact .inr ⟨a, Finset.mem_insert_self _ _, by simp only [IntOp.minsi, h, if_true]⟩
      · rw [show IntOp.minsi (f a) (s.fold IntOp.minsi z f) = s.fold IntOp.minsi z f by simp only [IntOp.minsi, h]; rfl]
        exact hmem.imp_right fun ⟨i, hi, e⟩ => ⟨i, Finset.mem_insert_of_mem hi, e⟩

namespace Table

variable {n : ℕ} {φ : FTy} (T : Table Ideal n φ)

/-- The facts about a table's constants that a round relies on: its maximum starts from −∞, it strikes with −∞, and the
    number that stands for «not here» is past every column. -/
structure Sound : Prop where
  start_bot : (FloatOps.ofBits (F := Ideal) φ T.start : EReal) = ⊥
  low_bot : (T.low : EReal) = ⊥
  width_eq : T.width = BitVec.ofNat 32 n
  pos : 0 < n
  small : n < 2 ^ 31 - 1

variable (a : Fin 512)

/-- Inserting a column number into a row number. -/
theorem lift_eq (b : Fin n) : T.reduces.lift (ix1 a) b = ix2 a b := by
  funext c
  match c with
  | ⟨0, _⟩ => rfl
  | ⟨1, _⟩ => rfl

/-- An entry's column number. -/
theorem column_apply (b : Fin n) : T.column (ix2 a b) = BitVec.ofNat 32 b := iota_single_apply ..

/-- A value per row, repeated along the row. -/
theorem spread_apply {α : Type} (w : S512x1.Idx → α) (b : Fin n) : T.spread w (ix2 a b) = w (ix2 a 0) :=
  broadcastTo_apply w T.spreads (ix2 a b) (ix2 a 0) fun c => by
    match c with
    | ⟨0, _⟩ => rfl
    | ⟨1, _⟩ => rfl

variable {T} (hT : T.Sound) (v : FVec Ideal (Rows n) φ)

include hT

/-- `best` is the row's greatest entry. -/
theorem best_isTop : IsTop (row v a) (T.best v (ix2 a 0)) := by
  have h : T.best v (ix2 a 0) = Finset.univ.fold max ⊥ (row v a) := by
    unfold best
    rw [shapeCast_a_a1_apply]
    unfold peak
    rw [Ideal.multiReduction_maximumf_single, hT.start_bot]
    exact congrArg (Finset.fold max ⊥ · _) (funext fun b => congrArg v (T.lift_eq a b))
  rw [h]
  exact fold_max_isTop hT.pos _

/-- `place` is a column where the row's greatest entry stands. -/
theorem place_spec : ∃ p : Fin n, T.place v (ix1 a) = BitVec.ofNat 32 p ∧ v (ix2 a p) = T.best v (ix2 a 0) := by
  have htoInt : ∀ k : ℕ, k ≤ n → (BitVec.ofNat 32 k).toInt = k := fun k hk => by
    have := hT.small
    have hnat : (BitVec.ofNat 32 k).toNat = k := by rw [BitVec.toNat_ofNat]; exact Nat.mod_eq_of_lt (by omega)
    rw [BitVec.toInt_eq_toNat_of_lt (by omega), hnat]
  set f : Fin n → BitVec 32 := fun b => if v (ix2 a b) = T.best v (ix2 a 0) then BitVec.ofNat 32 b else BitVec.ofNat 32 n with hf
  have hplace : T.place v (ix1 a) = Finset.univ.fold IntOp.minsi 2147483647#32 f := by
    refine (multiReductionI_eq_fold _ _ _ T.reduces rfl _).trans ?_
    refine (T.reduces.fold_filter_drop_single IntOp.minsi _ _ _).trans ?_
    refine congrArg (Finset.fold IntOp.minsi 2147483647#32 · _) (funext fun (b : Fin n) => ?_)
    refine (congrArg (select (T.tied v) T.column (broadcast (Rows n) T.width)) (T.lift_eq a b)).trans ?_
    show Scalar.select (Ideal.cmp .oeq (v (ix2 a b)) (T.spread (T.best v) (ix2 a b))) (T.column (ix2 a b)) T.width = _
    rw [spread_apply, hT.width_eq, column_apply, hf]
    by_cases h : v (ix2 a b) = T.best v (ix2 a 0)
    · simp [Scalar.select, Ideal.cmp, h]
    · simp [Scalar.select, Ideal.cmp, h]
  obtain ⟨q, hq⟩ := (best_isTop a hT v).2
  obtain ⟨hle, hmem⟩ := fold_minsi_spec Finset.univ 2147483647#32 f
  have hlt : (Finset.univ.fold IntOp.minsi 2147483647#32 f).toInt < n := by
    refine (hle q (Finset.mem_univ q)).trans_lt ?_
    rw [hf]; simp only [show v (ix2 a q) = T.best v (ix2 a 0) from hq, if_true]
    rw [htoInt _ q.isLt.le]; exact_mod_cast q.isLt
  rw [hplace]
  rcases hmem with h | ⟨p, _, h⟩
  · rw [h] at hlt
    have := hT.small
    have : (2147483647#32 : BitVec 32).toInt = 2147483647 := by decide
    omega
  · rw [h] at hlt ⊢
    by_cases hp : v (ix2 a p) = T.best v (ix2 a 0)
    · exact ⟨p, by rw [hf]; simp only [hp, if_true], hp⟩
    · rw [hf] at hlt; simp only [hp, if_false] at hlt
      rw [htoInt n le_rfl] at hlt
      exact absurd hlt (lt_irrefl _)

/-- A round strikes out a greatest entry of the row. -/
theorem strike_strikes : Strikes (row v a) (row (T.strike v) a) := by
  obtain ⟨p, hp, htop⟩ := place_spec a hT v
  refine ⟨p, fun i => ?_, funext fun b => ?_⟩
  · exact ((best_isTop a hT v).1 i).trans_eq htop.symm
  · show Scalar.select (IntOp.cmpi .eq (T.column (ix2 a b)) (T.spread (shapeCast S512x1 (T.place v) shapeCasts_S512_S512x1) (ix2 a b)))
      T.low (v (ix2 a b)) = _
    rw [spread_apply, shapeCast_a_a1_apply, hp, column_apply, hT.low_bot]
    have hsmall := hT.small
    have hinj : BitVec.ofNat 32 b = BitVec.ofNat 32 p ↔ b = p := by
      constructor
      · intro h
        have := congrArg BitVec.toNat h
        simp only [BitVec.toNat_ofNat] at this
        rw [Nat.mod_eq_of_lt (by omega), Nat.mod_eq_of_lt (by omega)] at this
        exact Fin.ext this
      · rintro rfl; rfl
    by_cases h : b = p
    · subst h; simp [Scalar.select, IntOp.cmpi]
    · have : ¬ BitVec.ofNat 32 b = BitVec.ofNat 32 p := fun e => h (hinj.mp e)
      simp [Scalar.select, IntOp.cmpi, beq_eq_false_iff_ne.mpr this, h, row]

/-- Result `k` of a row is its value of rank `k`. -/
theorem result_isKth {k : ℕ} (hk : k < n) : IsKth (row v a) k (T.result v k (ix2 a 0)) :=
  IsKth.of_strikes (fun j => row (T.strike^[j] v) a)
    (fun j => by simp only [Function.iterate_succ_apply']; exact strike_strikes a hT _)
    (by simpa using hk) (best_isTop a hT _)

/-- The sixteen results of a row are its values of ranks 0 to 15. -/
theorem top_isKth (hn : 16 ≤ n) (k : Fin 16) : IsKth (row v a) k (T.top v (ix2 a k)) := by
  have h : T.top v (ix2 a k) = T.result v k (ix2 a 0) :=
    concatenate_ofFn_unit_apply (t := S512x16) 1 (fun i : Fin 16 => T.result v i) _ rfl rfl (ix2 a k) k rfl (ix2 a 0) fun b hb => by
      match b with
      | ⟨0, _⟩ => rfl
      | ⟨1, _⟩ => exact absurd rfl hb
  rw [h]
  exact result_isKth a hT v (k.isLt.trans_le hn)

end Table

/-- The constants of the two tables are sound. -/
theorem blockTable_sound : (blockTable (F := Ideal)).Sound where
  start_bot := by show Ideal.ofBits .bf16 0xFF80#16 = ⊥; simp [Ideal.ofBits, Ideal.ieee]
  low_bot := by show Ideal.ofBits .f32 0xFF800000#32 = ⊥; simp [Ideal.ofBits, Ideal.ieee]
  width_eq := rfl
  pos := by decide
  small := by decide

@[inherit_doc blockTable_sound]
theorem mergeTable_sound : (mergeTable (F := Ideal)).Sound where
  start_bot := by show Ideal.ofBits .f32 0xFF800000#32 = ⊥; simp [Ideal.ofBits, Ideal.ieee]
  low_bot := by show Ideal.ofBits .f32 0xFF800000#32 = ⊥; simp [Ideal.ofBits, Ideal.ieee]
  width_eq := rfl
  pos := by decide
  small := by decide

end Cert.TopK

end
-- ==== Proof.Merge.lean ====
/-
# What one device stores, in terms of two blocks

Each device keeps the sixteen greatest of its own block's row and gets the sixteen greatest of its partner's. Of these
thirty-two it takes the sixteen greatest, and those are the sixteen greatest of the two blocks' rows together. The two
devices of a pair hold the two halves of the whole rows, so both store the whole row's sixteen greatest values.
-/
module

public import proofs.«01_k».proof.Proof.Strike
public import proofs.«01_k».proof.Proof.Launch
public import Idealize.ShloMosaic.Lib.Layout
public import Mathlib.Logic.Equiv.Fin.Basic

@[expose] public section

noncomputable section

namespace Cert.TopK

open Cert.KernelIdeal Cert.KernelIdeal.Gen
open Idealize.ShloMosaic Idealize.ShloMosaic.TcCoe Idealize.ShloMosaic.ValueIdx

/-- A device's candidates: of each row of its block, the values of ranks 0 to 15. -/
theorem candidates_isKth (x : FVec Ideal S512x4096 .bf16) (a : Fin 512) (k : Fin 16) :
    IsKth (row x a) k (candidates x (ix2 a k)) := by
  have h := blockTable.top_isKth a blockTable_sound (entries x) (by decide) k
  rwa [show row (entries x) a = row x a from funext fun b => congrFun (shapeCast_self x _) (ix2 a b)] at h

/-- The first sixteen columns of what a device sends are its candidates. -/
theorem parcel_first (t : FVec Ideal S512x16 .bf16) (a : Fin 512) (k : Fin 16) :
    (parcel t : FVec Ideal S512x128 .f32) (ix2 a ⟨k, by omega⟩) = t (ix2 a k) := by
  unfold parcel k0_pay32
  refine (congrFun (shapeCast_self _ _) _).trans ?_
  exact concatenate_pair_apply_left (t := S512x128) (s₁ := S512x16) 1 _ _ _ _ rfl (ix2 a k) fun b => by
    match b with
    | ⟨0, _⟩ => rfl
    | ⟨1, _⟩ => rfl

/-- A row of the thirty-two candidates: the device's own sixteen, then its partner's. -/
theorem both_row (t : FVec Ideal S512x16 .bf16) (u : FVec Ideal S512x16 .f32) (a : Fin 512) :
    (fun i => row (both t u) a (finSumFinEquiv (m := 16) (n := 16) i)) = Sum.elim (row t a) (row u a) := by
  funext i
  match i with
  | .inl i =>
    exact concatenate_pair_apply_left (t := S512x32) (s₁ := S512x16) 1 _ _
      concatenates_S512x16_S512x16_S512x32_d1 _ rfl (ix2 a i) fun b => by
      match b with
      | ⟨0, _⟩ => rfl
      | ⟨1, _⟩ => rfl
  | .inr i =>
    exact concatenate_pair_apply_right (t := S512x32) (s₁ := S512x16) (s₂ := S512x16) 1 _ _
      concatenates_S512x16_S512x16_S512x32_d1 _ rfl rfl (ix2 a i)
      (fun b hb => by
        match b with
        | ⟨0, _⟩ => rfl
        | ⟨1, _⟩ => exact absurd rfl hb)
      (Nat.add_comm _ _)

/-- The merged result of two blocks: the values of ranks 0 to 15 among the two blocks' rows. -/
theorem merged_isKth (x y : FVec Ideal S512x4096 .bf16) (u : FVec Ideal S512x16 .f32)
    (hu : ∀ (a : Fin 512) (k : Fin 16), u (ix2 a k) = candidates y (ix2 a k)) (a : Fin 512) (k : Fin 16) :
    IsKth (Sum.elim (row x a) (row y a)) k (merged (candidates x) u (ix2 a k)) := by
  have h := mergeTable.top_isKth a mergeTable_sound (both (candidates x) u) (by decide) k
  refine IsKth.of_merge (candidates_isKth x a) (fun j => ?_) k.isLt (f := row (candidates x) a) (g := row u a) ?_
  · rw [show row u a j = candidates y (ix2 a j) from hu a j]; exact candidates_isKth y a j
  · rw [← both_row]
    exact IsKth.rename (finSumFinEquiv (m := 16) (n := 16)).symm
      (by simp only [Equiv.apply_symm_apply]; exact h)

/-! ## The two halves of a row -/

/-- Half `h` of a whole row. -/
abbrev half (X : (⟨2, ![512, 8192]⟩ : Shape).Idx → EReal) (h : Fin 2) : (⟨2, ![512, 4096]⟩ : Shape).Idx → EReal :=
  fun i => X (ix2 (i 0) ⟨4096 * h + (i 1).val, by have := idx2_lt1 i; omega⟩)

/-- A rank among the two halves of a row, in either order, is that rank in the row. -/
theorem halves_isKth (X : (⟨2, ![512, 8192]⟩ : Shape).Idx → EReal) (a : Fin 512) (h g : Fin 2) (hg : h ≠ g) {k : ℕ} {t : EReal}
    (hk : IsKth (Sum.elim (row (half X h) a) (row (half X g) a)) k t) : IsKth (row X a) k t := by
  have hfst : (fun i => row X a (finSumFinEquiv (m := 4096) (n := 4096) i)) = Sum.elim (row (half X 0) a) (row (half X 1) a) := by
    funext i
    match i with
    | .inl i => exact congrArg X (congrArg (ix2 a) (Fin.ext (by show (i : ℕ) = 4096 * 0 + i; omega)))
    | .inr i => exact congrArg X (congrArg (ix2 a) (Fin.ext (by show 4096 + (i : ℕ) = 4096 * 1 + i; omega)))
  have hsnd : (fun i => row X a (((Equiv.sumComm _ _).trans (finSumFinEquiv (m := 4096) (n := 4096))) i))
      = Sum.elim (row (half X 1) a) (row (half X 0) a) := by
    funext i
    match i with
    | .inl i => exact congrFun hfst (.inr i)
    | .inr i => exact congrFun hfst (.inl i)
  match h, g with
  | 0, 0 => exact absurd rfl hg
  | 1, 1 => exact absurd rfl hg
  | 0, 1 => rw [← hfst] at hk; exact hk.rename _
  | 1, 0 => rw [← hsnd] at hk; exact hk.rename _

/-- Which half of the row a device holds. -/
def side (c : Dev nD) : Fin 2 := ⟨c.val % 2, Nat.mod_lt _ (by decide)⟩

/-- Partners hold different halves. -/
theorem side_mate (c : Dev nD) : side c ≠ side (mate c) := by revert c; decide

/-- A device's share of a whole array, cut along the columns over the mesh's last axis. -/
theorem share_eq (X : (⟨2, ![512, 8192]⟩ : Shape).Idx → EReal) (c : Dev nD) :
    Layout.blockN ⟨2, ![512, 4096]⟩ ⟨2, ![512, 8192]⟩ (Layout.meshBlock [2, 2, 2] ![[], [2]] c) X = half X (side c) := by
  have h0 : ∀ c : Dev nD, (Layout.meshBlock [2, 2, 2] ![[], [2]] c (by decide) 0 : ℕ) = 0 := by decide
  have h1 : ∀ c : Dev nD, (Layout.meshBlock [2, 2, 2] ![[], [2]] c (by decide) 1 : ℕ) = side c := by decide
  funext i
  refine congrArg X (funext fun b => Fin.ext ?_)
  rw [Layout.TilesN.idx_val]
  match b with
  | ⟨0, _⟩ =>
    show (Layout.meshBlock [2, 2, 2] ![[], [2]] c (by decide) 0 : ℕ) * 512 + (i 0).val = (i 0).val
    rw [h0]; omega
  | ⟨1, _⟩ =>
    show (Layout.meshBlock [2, 2, 2] ![[], [2]] c (by decide) 1 : ℕ) * 4096 + (i 1).val = 4096 * (side c : ℕ) + (i 1).val
    rw [h1]; omega

variable (m : (ℓ : Loc nD τ sig) → Buf (Elt Ideal) ℓ) (ρ : Dev nD → PrngReg)

/-- What a device reads of its partner's letter: the partner's candidates. -/
theorem arrived (c : Dev nD) (a : Fin 512) (k : Fin 16) :
    (inbox : Memref sig .tc .vmem S512x128 .f32).view.readAt (Elt Ideal) firstCols.toLoadRect (letter m ρ (mate c)) (ix2 a k)
      = candidates (block m ρ (mate c)) (ix2 a k) := by
  refine Eq.trans (congrArg (parcel (candidates (block m ρ (mate c)))) ?_) (parcel_first (candidates (block m ρ (mate c))) a k)
  funext b
  match b with
  | ⟨0, _⟩ => exact Fin.ext (by show 0 + 1 * (a : ℕ) = a; omega)
  | ⟨1, _⟩ => exact Fin.ext (by show 0 + 1 * (k : ℕ) = k; omega)

/-- Every device stores the sixteen greatest values of each whole row, in order. -/
theorem outcome_isKth (X : (⟨2, ![512, 8192]⟩ : Shape).Idx → EReal)
    (hX : ∀ c : Dev nD, m ((c : Thread nD τ).loc main_arg0)
      = Layout.blockN ⟨2, ![512, 4096]⟩ ⟨2, ![512, 8192]⟩ (Layout.meshBlock [2, 2, 2] ![[], [2]] c) X)
    (c : Dev nD) (a : Fin 512) (k : Fin 16) : IsKth (row X a) k (outcome m ρ c (ix2 a k)) := by
  have hblock : ∀ c : Dev nD, (block m ρ c : FVec Ideal S512x4096 .bf16) = half X (side c) := fun c =>
    ((block_eq m ρ c).trans (hX c)).trans (share_eq X c)
  have h : IsKth (Sum.elim (row (half X (side c)) a) (row (half X (side (mate c))) a)) k (outcome m ρ c (ix2 a k)) := by
    rw [← hblock c, ← hblock (mate c)]
    exact merged_isKth (block m ρ c) (block m ρ (mate c)) _ (arrived m ρ c) a k
  exact halves_isKth X a _ _ (side_mate c) h

end Cert.TopK

end
-- ==== Proof.Sorted.lean ====
/-
# What the reference computes

The reference sorts each row's column numbers by the negated entries, keeps the first sixteen column numbers, and reads
the row at them. The sort is a permutation that leaves the entries descending, so the entry at its place `k` has rank `k`
in the row. A column number lies between 0 and 8191, so the reference's care for negative numbers and for numbers out of
range changes nothing.
-/
module

public import proofs.«01_k».proof.Proof.Gen.ReferenceIdeal.Run
public import proofs.«01_k».proof.Proof.Strike
public import Idealize.ShloMosaic.Lib.SortFacts
public import Idealize.ShloMosaic.Lib.IdealHost

@[expose] public section

noncomputable section

namespace Cert.TopK.Sorted

open Cert.ReferenceIdeal Cert.ReferenceIdeal.Gen
open Idealize.ShloMosaic Idealize.ShloMosaic.ValueIdx

variable (x : FVec Ideal S512x8192 .bf16)

/-! ## The reference's steps -/

/-- The column numbers of each row, sorted by descending entry. -/
def order : IVec S512x8192 32 :=
  (Host.sort2 S512x8192 1 (comparator_f32_i32_d1 (F := Ideal)) (Host.negf (extf .f32 x bitsLt_bf16_f32)) (iotaInDim S512x8192 32 1)).2

/-- The first sixteen of them. -/
def leading : IVec S512x16 32 := extractStridedSlice S512x16 ![0, 0] (order x) slices_S512x8192_S512x16_0_0

/-- A negative number counts from the row's end. -/
def counted (i : IVec S512x16 32) : IVec S512x16x1 32 :=
  shapeCast _ (select (cmpi .slt i (broadcastInDim S512x16 ![] bcast_S_S512x16 (constantI S_ 32 0#32)))
    (addi i (broadcastInDim S512x16 ![] bcast_S_S512x16 (constantI S_ 32 8192#32))) i) shapeCasts_S512x16_S512x16x1

/-- Whether a number is a column's. -/
def inside (i : IVec S512x16x1 32) : IVec S512x16 1 :=
  Host.reduce IntOp.andi
    (andi (cmpi .sge i (broadcastInDim S512x16x1 ![] bcast_S_S512x16x1 (constantI S_ 32 0#32)))
      (cmpi .sle i (broadcastInDim S512x16x1 ![0, 1, 2] bcast_S1x1x1_S512x16x1_0_1_2
        (broadcastInDim S1x1x1 ![2] bcast_S1_S1x1x1_2 (constantI S1 32 8191#32)))))
    (constantI S_ 1 1#1) reducesTo_S512x16x1_S512x16_d2 h_S_

/-- The reference's result. -/
def result : FVec Ideal S512x16 .f32 :=
  select (inside (counted (leading x)))
    (Host.gather gather_S512x8192_S512x16x1_S512x16_n_1_0_0_1_2_11 (extf .f32 x bitsLt_bf16_f32) (counted (leading x)))
    (broadcastInDim S512x16 ![] bcast_S_S512x16 (constant S_ .f32 0x7FC00000#32))

/-! ## The sort -/

/-- The place of each entry of a family sorted from the greatest down. -/
def source {n : ℕ} (v : Fin n → EReal) : Fin n → Fin n := sortedFrom fun k j => decide (v j < v k)

/-- So sorted, the entries descend. -/
theorem source_antitone {n : ℕ} (v : Fin n → EReal) : Antitone fun k => v (source v k) := by
  intro i j hij
  rcases hij.eq_or_lt with rfl | hlt
  · exact le_rfl
  · have h := sortedFrom_noInversion (fun k j => decide (v j < v k)) _
      (fun k j h => by simp only [decide_eq_true_eq, decide_eq_false_iff_not, not_lt] at h ⊢; exact h.le) (fun _ _ h => h)
      (fun k j l h h' => by simp only [decide_eq_false_iff_not, not_lt] at h h' ⊢; exact h.trans h') i j hlt
    exact not_lt.mp (of_decide_eq_false h)

/-- The entry at place `k` of the sorted family has rank `k`. -/
theorem source_isKth {n : ℕ} (v : Fin n → EReal) (k : Fin n) : IsKth v k (v (source v k)) :=
  IsKth.rename (Equiv.ofBijective (source v) ⟨sortedFrom_injective _, sortedFrom_surjective _⟩)
    (IsKth.of_antitone (source_antitone v) k)

/-- Before it compares, the sort's test writes zero for zero and a fixed number for what differs from itself: on
    extended reals every key stays. -/
theorem key_eq (e z : EReal) :
    Scalar.select (Ideal.cmp .une e e) z (Scalar.select (Ideal.cmp .oeq e (Ideal.ofBits .f32 0x00000000#32)) (Ideal.ofBits .f32 0x00000000#32) e) = e := by
  have hz : Ideal.ofBits .f32 0x00000000#32 = (0 : EReal) := by simp [Ideal.ofBits, Ideal.ieee]
  rw [hz]
  by_cases h : e = 0 <;> simp [Scalar.select, Ideal.cmp, h]

/-- On extended reals the sort's test is the order of the keys. -/
theorem comparator_eq (l r : Ideal .f32 × BitVec 32) :
    (comparator_f32_i32_d1 (F := Ideal) l r == 1#1) = decide ((l.1 : EReal) < r.1) := by
  have h : comparator_f32_i32_d1 (F := Ideal) l r = Ideal.cmp .olt (l.1 : EReal) r.1 :=
    congrArg₂ (Ideal.cmp .olt) (key_eq l.1 _) (key_eq r.1 _)
  rw [h]
  by_cases h : (l.1 : EReal) < r.1 <;> simp [Ideal.cmp, h]

/-- The reference's sorted column numbers. -/
theorem order_apply (a : Fin 512) (b : Fin 8192) : order x (ix2 a b) = BitVec.ofNat 32 (source (row x a) b) := by
  have along (k : Fin 8192) : (ix2 a b : S512x8192.Idx).along 1 k = ix2 a k := by
    funext d
    match d with
    | ⟨0, _⟩ => rfl
    | ⟨1, _⟩ => rfl
  unfold order Host.sort2
  rw [dif_pos (by decide)]
  refine (iotaInDim_apply _ _ _).trans (congrArg (BitVec.ofNat 32) ?_)
  refine congrArg Fin.val ((Function.update_self _ _ _).trans ?_)
  refine congrFun (congrArg sortedFrom (?_ : _ = fun k j : Fin 8192 => decide (row x a j < row x a k))) b
  refine funext fun (k : Fin 8192) => funext fun (j : Fin 8192) => ?_
  refine (comparator_eq _ _).trans ?_
  show decide (-(x ((ix2 a b : S512x8192.Idx).along 1 k) : EReal) < -(x ((ix2 a b : S512x8192.Idx).along 1 j))) = _
  rw [along, along]
  exact decide_eq_decide.mpr EReal.neg_lt_neg_iff

/-! ## The reading at the column numbers -/

/-- A column number as a word keeps its value. -/
theorem word_toInt (p : Fin 8192) : (BitVec.ofNat 32 p).toInt = p := by
  have h : (BitVec.ofNat 32 (p : ℕ)).toNat = p := by rw [BitVec.toNat_ofNat]; omega
  rw [BitVec.toInt_eq_toNat_of_lt (by omega), h]

/-- A column number is not negative, so it stays as it is. -/
theorem counted_apply (i : IVec S512x16 32) (a : Fin 512) (k : Fin 16) (p : Fin 8192) (hp : i (ix2 a k) = BitVec.ofNat 32 p) :
    counted i (ix3 a k 0) = BitVec.ofNat 32 p := by
  unfold counted
  rw [shapeCast_apply _ _ (ix3 a k 0) (ix2 a k) (by rw [Shape.rowMajor_val_two, Shape.rowMajor_val_three]; simp [ix2, ix3])]
  show Scalar.select (IntOp.cmpi .slt (i (ix2 a k)) 0#32) _ (i (ix2 a k)) = _
  rw [hp]
  have h : (BitVec.ofNat 32 p).slt 0#32 = false := by
    rw [BitVec.slt, word_toInt]; simp
  simp [IntOp.cmpi, Scalar.select, h]

/-- A conjunction of one bit. -/
theorem fold_one (f : Fin 1 → BitVec 1) : (Finset.univ : Finset (Fin 1)).fold IntOp.andi 1#1 f = IntOp.andi (f 0) 1#1 := by
  rw [Finset.univ_unique, Finset.fold_singleton]; rfl

/-- A column number is in range. -/
theorem inside_apply (i : IVec S512x16x1 32) (a : Fin 512) (k : Fin 16) (p : Fin 8192) (hp : i (ix3 a k 0) = BitVec.ofNat 32 p) :
    inside i (ix2 a k) = 1#1 := by
  unfold inside
  have fits : S512x16x1.Reduces [2] S512x16 := by decide
  have place : fits.lift (ix2 a k) (0 : Fin 1) = ix3 a k 0 := by
    funext d
    match d with
    | ⟨0, _⟩ => rfl
    | ⟨1, _⟩ => rfl
    | ⟨2, _⟩ => rfl
  have low : (0#32).sle (BitVec.ofNat 32 p) = true := by rw [BitVec.sle, word_toInt]; simp
  have high : (BitVec.ofNat 32 p).sle 8191#32 = true := by
    rw [BitVec.sle, word_toInt, show (8191#32).toInt = 8191 by decide]; simp; omega
  refine ((Host.reduce_eq_fold_single _ _ _ _ fits h_S_ _).trans (fold_one _)).trans ?_
  refine (congrArg (fun q => IntOp.andi (IntOp.andi (IntOp.cmpi .sge (i q) 0#32) (IntOp.cmpi .sle (i q) 8191#32)) 1#1) place).trans ?_
  simp only [hp, IntOp.cmpi, low, high]
  decide

/-- The gather reads the row at the column number. -/
theorem gather_apply (y : FVec Ideal S512x8192 .f32) (i : IVec S512x16x1 32) (a : Fin 512) (k : Fin 16) (p : Fin 8192)
    (hp : i (ix3 a k 0) = BitVec.ofNat 32 p) :
    Host.gather gather_S512x8192_S512x16x1_S512x16_n_1_0_0_1_2_11 y i (ix2 a k) = y (ix2 a p) := by
  have asked : gather_S512x8192_S512x16x1_S512x16_n_1_0_0_1_2_11.siIdx (ix2 a k) ⟨0, by decide⟩ = ix3 a k 0 := by
    funext d
    match d with
    | ⟨0, _⟩ => rfl
    | ⟨1, _⟩ => rfl
    | ⟨2, _⟩ => rfl
  refine congrArg y (funext fun d => Fin.ext ?_)
  match d with
  | ⟨0, _⟩ => exact (Nat.zero_add _ : 0 + (a : ℕ) = a)
  | ⟨1, _⟩ =>
    show min (i (gather_S512x8192_S512x16x1_S512x16_n_1_0_0_1_2_11.siIdx (ix2 a k) ⟨0, by decide⟩)).toInt.toNat 8191 = (p : ℕ)
    rw [asked, hp, word_toInt, Int.toNat_natCast]
    omega

/-- Each of the reference's results has its place's rank in the row. -/
theorem result_isKth (a : Fin 512) (k : Fin 16) : IsKth (row x a) k (result x (ix2 a k)) := by
  have hk : leading x (ix2 a k) = BitVec.ofNat 32 (source (row x a) ⟨k, by omega⟩) := by
    rw [← order_apply]
    refine congrArg (order x) (funext fun d => ?_)
    match d with
    | ⟨0, _⟩ => exact Fin.ext (by show 0 + (a : ℕ) = a; omega)
    | ⟨1, _⟩ => exact Fin.ext (by show 0 + (k : ℕ) = k; omega)
  have hc := counted_apply (leading x) a k _ hk
  have h : result x (ix2 a k) = x (ix2 a (source (row x a) ⟨k, by omega⟩)) := by
    unfold result
    rw [select_apply, inside_apply _ a k _ hc]
    refine (if_pos rfl).trans ?_
    exact gather_apply _ _ a k _ hc
  rw [h]
  exact source_isKth (row x a) ⟨k, by omega⟩

end Cert.TopK.Sorted

end
-- ==== Proof.Equation.lean ====
/-
# The kernel and the reference store the same values

Every device's result at row `a` and place `k` has rank `k` in row `a` of the whole array, and so has the reference's.
Only one value has a given rank, so the two are equal.
-/
module

public import proofs.«01_k».proof.Defs
public import proofs.«01_k».proof.Proof.Merge
public import proofs.«01_k».proof.Proof.Sorted

@[expose] public section

noncomputable section

namespace Cert.TopK

open Idealize.ShloMosaic Idealize.ShloMosaic.TcCoe Idealize.ShloMosaic.ValueIdx Idealize.SL.Sem

/-- Where every device holds its share of `X`, its outcome is the reference's result for `X`. -/
theorem outcome_eq (m : (ℓ : Loc KernelIdeal.nD KernelIdeal.τ KernelIdeal.sig) → Buf (Elt Ideal) ℓ) (ρ : Dev KernelIdeal.nD → PrngReg)
    (X : (⟨2, ![512, 8192]⟩ : Shape).Idx → EReal)
    (hX : ∀ c : Dev KernelIdeal.nD, m ((c : Thread KernelIdeal.nD KernelIdeal.τ).loc KernelIdeal.main_arg0)
      = Layout.blockN ⟨2, ![512, 4096]⟩ ⟨2, ![512, 8192]⟩ (Layout.meshBlock [2, 2, 2] ![[], [2]] c) X)
    (c : Dev KernelIdeal.nD) : outcome m ρ c = Sorted.result X := by
  funext i
  rw [eq_ix2 i]
  exact (outcome_isKth m ρ X hX c _ _).unique (Sorted.result_isKth X _ _)

/-- The kernel and the reference, on extended reals, store equal arrays. -/
theorem algebraic : Cert.algebraic_KernelIdeal_ReferenceIdeal := fun m ρ m' ρ' _ hX =>
  ⟨Sorted.result (m' (((0 : Dev ReferenceIdeal.nD).tc : Thread ReferenceIdeal.nD ReferenceIdeal.τ).loc ReferenceIdeal.main_arg0)),
    (θ_run KernelIdeal.defs _ _).mono
      (fun _ h c => ⟨(h.1 c (1 : Fin 2)).trans ((final_outcome m ρ c).trans (outcome_eq m ρ _ hX c)),
        (h.1 c (0 : Fin 2)).trans (final_block m ρ c)⟩)
      (run_main (F := Ideal) m ρ),
    (θ_run ReferenceIdeal.defs _ _).mono (fun _ h => h 0) (ReferenceIdeal.Value.run (F := Ideal) m' ρ')⟩

end Cert.TopK

end
-- ==== Proof.lean ====
/-
# The certificate

The three programs run to their ends with their arguments unchanged and their semaphores at zero; the kernel on extended
reals is the kernel's own text; and on extended reals it stores what the reference stores.
-/
module

public import proofs.«01_k».proof.Defs
public import proofs.«01_k».proof.Proof.Frames
public import proofs.«01_k».proof.Proof.Equation

@[expose] public section

noncomputable section

namespace Cert.Proof

/-- Every claim. -/
theorem claim : Cert.Claim :=
  ⟨Cert.Kernel.Gen.facts, Cert.KernelIdeal.Gen.facts, Cert.ReferenceIdeal.Gen.facts,
    Cert.TopK.frame_kernel, Cert.TopK.frame_kernel_ideal, Cert.TopK.frame_reference_ideal, trivial, Cert.TopK.algebraic⟩

end Cert.Proof

end
